-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![4, 256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S4x4096x32x128 : Shape := ⟨4, ![4, 4096, 32, 128]⟩
abbrev S4x256x1024 : Shape := ⟨3, ![4, 256, 1024]⟩
abbrev S3x4096x256 : Shape := ⟨3, ![3, 4096, 256]⟩
abbrev S256x1024 : Shape := ⟨2, ![256, 1024]⟩
abbrev S3x256x1024 : Shape := ⟨3, ![3, 256, 1024]⟩
abbrev S3 : Shape := ⟨1, ![3]⟩
abbrev S4 : Shape := ⟨1, ![4]⟩
abbrev S3x2 : Shape := ⟨2, ![3, 2]⟩
abbrev S_ : Shape := ⟨0, ![]⟩
abbrev S1 : Shape := ⟨1, ![1]⟩
abbrev S1x1 : Shape := ⟨2, ![1, 1]⟩
abbrev S1x4096x256 : Shape := ⟨3, ![1, 4096, 256]⟩
abbrev S4096x256 : Shape := ⟨2, ![4096, 256]⟩
abbrev S4x4096x4096 : Shape := ⟨3, ![4, 4096, 4096]⟩
abbrev S256x128 : Shape := ⟨2, ![256, 128]⟩
abbrev S1x4096x128 : Shape := ⟨3, ![1, 4096, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S4x4096x32x128, .f32⟩
  | .hbm, ⟨4, _⟩ => ⟨S4x4096x32x128, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S3x4096x256, .f32⟩
  | .local _ .vmem, ⟨8, _⟩ => ⟨S3x4096x256, .f32⟩
  | .local _ .vmem, ⟨9, _⟩ => ⟨S256x1024, .bf16⟩
  | .local _ .vmem, ⟨10, _⟩ => ⟨S3x256x1024, .bf16⟩
  | .local _ .vmem, ⟨11, _⟩ => ⟨S4x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v49 : BitVec 32 := Scalar.addi v2 c1_i32_33
  let c4_i32_34 : BitVec 32 := 4#32
  let c0_i32_35 : BitVec 32 := 0#32
  let v50 : BitVec 1 := Scalar.cmpi .eq c4_i32_34 c0_i32_35
  let c1_i32_36 : BitVec 32 := 1#32
  let v51 : BitVec 32 := Scalar.select v50 c1_i32_36 c4_i32_34
  let v52 : BitVec 32 := Scalar.remsi v49 v51
  let c0_i32_38 : BitVec 32 := 0#32
  let v54 : BitVec 1 := Scalar.cmpi .slt v52 c0_i32_38
  let c0_i32_39 : BitVec 32 := 0#32
  let v55 : BitVec 1 := Scalar.cmpi .slt v51 c0_i32_39
  let v56 : BitVec 1 := Scalar.xori v54 v55
  let c0_i32_37 : BitVec 32 := 0#32
  let v53 : BitVec 1 := Scalar.cmpi .ne v52 c0_i32_37
  let v57 : BitVec 1 := Scalar.andi v56 v53
  let v58 : BitVec 32 := Scalar.addi v52 v51
  let v59 : BitVec 32 := Scalar.select v57 v58 v52
  let c1_i32_44 : BitVec 32 := 1#32
  let v60 : BitVec 32 := Scalar.muli v59 c1_i32_44
  let v61 : BitVec 32 := Scalar.addi c0_i32_45 v60
  v61.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v70 : BitVec 32 := Scalar.addi v2 c2_i32_50
  let c4_i32_51 : BitVec 32 := 4#32
  let c0_i32_52 : BitVec 32 := 0#32
  let v71 : BitVec 1 := Scalar.cmpi .eq c4_i32_51 c0_i32_52
  let c1_i32_53 : BitVec 32 := 1#32
  let v72 : BitVec 32 := Scalar.select v71 c1_i32_53 c4_i32_51
  let v73 : BitVec 32 := Scalar.remsi v70 v72
  let c0_i32_55 : BitVec 32 := 0#32
  let v75 : BitVec 1 := Scalar.cmpi .slt v73 c0_i32_55
  let c0_i32_56 : BitVec 32 := 0#32
  let v76 : BitVec 1 := Scalar.cmpi .slt v72 c0_i32_56
  let v77 : BitVec 1 := Scalar.xori v75 v76
  let c0_i32_54 : BitVec 32 := 0#32
  let v74 : BitVec 1 := Scalar.cmpi .ne v73 c0_i32_54
  let v78 : BitVec 1 := Scalar.andi v77 v74
  let v79 : BitVec 32 := Scalar.addi v73 v72
  let v80 : BitVec 32 := Scalar.select v78 v79 v73
  let c1_i32_61 : BitVec 32 := 1#32
  let v81 : BitVec 32 := Scalar.muli v80 c1_i32_61
  let v82 : BitVec 32 := Scalar.addi c0_i32_62 v81
  v82.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_67 : BitVec 32 := 3#32
  let v91 : BitVec 32 := Scalar.addi v2 c3_i32_67
  let c4_i32_68 : BitVec 32 := 4#32
  let c0_i32_69 : BitVec 32 := 0#32
  let v92 : BitVec 1 := Scalar.cmpi .eq c4_i32_68 c0_i32_69
  let c1_i32_70 : BitVec 32 := 1#32
  let v93 : BitVec 32 := Scalar.select v92 c1_i32_70 c4_i32_68
  let v94 : BitVec 32 := Scalar.remsi v91 v93
  let c0_i32_72 : BitVec 32 := 0#32
  let v96 : BitVec 1 := Scalar.cmpi .slt v94 c0_i32_72
  let c0_i32_73 : BitVec 32 := 0#32
  let v97 : BitVec 1 := Scalar.cmpi .slt v93 c0_i32_73
  let v98 : BitVec 1 := Scalar.xori v96 v97
  let c0_i32_71 : BitVec 32 := 0#32
  let v95 : BitVec 1 := Scalar.cmpi .ne v94 c0_i32_71
  let v99 : BitVec 1 := Scalar.andi v98 v95
  let v100 : BitVec 32 := Scalar.addi v94 v93
  let v101 : BitVec 32 := Scalar.select v99 v100 v94
  let c1_i32_78 : BitVec 32 := 1#32
  let v102 : BitVec 32 := Scalar.muli v101 c1_i32_78
  let v103 : BitVec 32 := Scalar.addi c0_i32_79 v102
  v103.toNat
def k0_off1 (d0 : Dev nD) (c0_i32_92 : BitVec 32) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v125 : BitVec 32 := Scalar.addi v2 c0_i32_92
  let c4_i32_93 : BitVec 32 := 4#32
  let c0_i32_94 : BitVec 32 := 0#32
  let v126 : BitVec 1 := Scalar.cmpi .eq c4_i32_93 c0_i32_94
  let c1_i32_95 : BitVec 32 := 1#32
  let v127 : BitVec 32 := Scalar.select v126 c1_i32_95 c4_i32_93
  let v128 : BitVec 32 := Scalar.remsi v125 v127
  let c0_i32_97 : BitVec 32 := 0#32
  let v130 : BitVec 1 := Scalar.cmpi .slt v128 c0_i32_97
  let c0_i32_98 : BitVec 32 := 0#32
  let v131 : BitVec 1 := Scalar.cmpi .slt v127 c0_i32_98
  let v132 : BitVec 1 := Scalar.xori v130 v131
  let c0_i32_96 : BitVec 32 := 0#32
  let v129 : BitVec 1 := Scalar.cmpi .ne v128 c0_i32_96
  let v133 : BitVec 1 := Scalar.andi v132 v129
  let v134 : BitVec 32 := Scalar.addi v128 v127
  let v135 : BitVec 32 := Scalar.select v133 v134 v128
  let c0_i32_106 : BitVec 32 := 0#32
  let c1024_i32 : BitVec 32 := 1024#32
  let v124 : BitVec 32 := Scalar.muli v2 c1024_i32
  let v136 : BitVec 32 := Scalar.addi v124 c0_i32_99
  ![v135.toNat, 0, v136.toNat]
def k0_dev7 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_389 : BitVec 32 := 1#32
  let v578 : BitVec 32 := Scalar.addi v2 c1_i32_389
  let c4_i32_390 : BitVec 32 := 4#32
  let c0_i32_391 : BitVec 32 := 0#32
  let v579 : BitVec 1 := Scalar.cmpi .eq c4_i32_390 c0_i32_391
  let c1_i32_392 : BitVec 32 := 1#32
  let v580 : BitVec 32 := Scalar.select v579 c1_i32_392 c4_i32_390
  let v581 : BitVec 32 := Scalar.remsi v578 v580
  let c0_i32_394 : BitVec 32 := 0#32
  let v583 : BitVec 1 := Scalar.cmpi .slt v581 c0_i32_394
  let c0_i32_395 : BitVec 32 := 0#32
  let v584 : BitVec 1 := Scalar.cmpi .slt v580 c0_i32_395
  let v585 : BitVec 1 := Scalar.xori v583 v584
  let c0_i32_393 : BitVec 32 := 0#32
  let v582 : BitVec 1 := Scalar.cmpi .ne v581 c0_i32_393
  let v586 : BitVec 1 := Scalar.andi v585 v582
  let v587 : BitVec 32 := Scalar.addi v581 v580
  let v588 : BitVec 32 := Scalar.select v586 v587 v581
  let c1_i32_660 : BitVec 32 := 1#32
  let v973 : BitVec 32 := Scalar.muli v588 c1_i32_660
  let v974 : BitVec 32 := Scalar.addi c0_i32_661 v973
  v974.toNat
def k0_dev8 (d0 : Dev nD) : Nat :=
  let c0_i32_938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_666 : BitVec 32 := 2#32
  let v983 : BitVec 32 := Scalar.addi v2 c2_i32_666
  let c4_i32_667 : BitVec 32 := 4#32
  let c0_i32_668 : BitVec 32 := 0#32
  let v984 : BitVec 1 := Scalar.cmpi .eq c4_i32_667 c0_i32_668
  let c1_i32_669 : BitVec 32 := 1#32
  let v985 : BitVec 32 := Scalar.select v984 c1_i32_669 c4_i32_667
  let v986 : BitVec 32 := Scalar.remsi v983 v985
  let c0_i32_671 : BitVec 32 := 0#32
  let v988 : BitVec 1 := Scalar.cmpi .slt v986 c0_i32_671
  let c0_i32_672 : BitVec 32 := 0#32
  let v989 : BitVec 1 := Scalar.cmpi .slt v985 c0_i32_672
  let v990 : BitVec 1 := Scalar.xori v988 v989
  let c0_i32_670 : BitVec 32 := 0#32
  let v987 : BitVec 1 := Scalar.cmpi .ne v986 c0_i32_670
  let v991 : BitVec 1 := Scalar.andi v990 v987
  let v992 : BitVec 32 := Scalar.addi v986 v985
  let v993 : BitVec 32 := Scalar.select v991 v992 v986
  let c1_i32_937 : BitVec 32 := 1#32
  let v1378 : BitVec 32 := Scalar.muli v993 c1_i32_937
  let v1379 : BitVec 32 := Scalar.addi c0_i32_938 v1378
  v1379.toNat
def k0_dev9 (d0 : Dev nD) : Nat :=
  let c0_i32_1151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_943 : BitVec 32 := 3#32
  let v1388 : BitVec 32 := Scalar.addi v2 c3_i32_943
  let c4_i32_944 : BitVec 32 := 4#32
  let c0_i32_945 : BitVec 32 := 0#32
  let v1389 : BitVec 1 := Scalar.cmpi .eq c4_i32_944 c0_i32_945
  let c1_i32_946 : BitVec 32 := 1#32
  let v1390 : BitVec 32 := Scalar.select v1389 c1_i32_946 c4_i32_944
  let v1391 : BitVec 32 := Scalar.remsi v1388 v1390
  let c0_i32_948 : BitVec 32 := 0#32
  let v1393 : BitVec 1 := Scalar.cmpi .slt v1391 c0_i32_948
  let c0_i32_949 : BitVec 32 := 0#32
  let v1394 : BitVec 1 := Scalar.cmpi .slt v1390 c0_i32_949
  let v1395 : BitVec 1 := Scalar.xori v1393 v1394
  let c0_i32_947 : BitVec 32 := 0#32
  let v1392 : BitVec 1 := Scalar.cmpi .ne v1391 c0_i32_947
  let v1396 : BitVec 1 := Scalar.andi v1395 v1392
  let v1397 : BitVec 32 := Scalar.addi v1391 v1390
  let v1398 : BitVec 32 := Scalar.select v1396 v1397 v1391
  let c1_i32_1150 : BitVec 32 := 1#32
  let v1702 : BitVec 32 := Scalar.muli v1398 c1_i32_1150
  let v1703 : BitVec 32 := Scalar.addi c0_i32_1151 v1702
  v1703.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x4096x32x128 : Shape := ⟨4, ![4, 4096, 32, 128]⟩
abbrev S4x256x4096 : Shape := ⟨3, ![4, 256, 4096]⟩
abbrev S4x256x32x128 : Shape := ⟨4, ![4, 256, 32, 128]⟩
abbrev S4x32x256x4096 : Shape := ⟨4, ![4, 32, 256, 4096]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩
abbrev S4x256x32x1 : Shape := ⟨4, ![4, 256, 32, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S4096x1024, .f32⟩
  | .hbm, ⟨3, _⟩ => ⟨S4x4096x32x128, .f32⟩
  | .hbm, ⟨4, _⟩ => ⟨S4x4096x32x128, .f32⟩
  | .hbm, ⟨5, _⟩ => ⟨S4x256x4096, .f32⟩
  | .hbm, ⟨6, _⟩ => ⟨S4x256x32x128, .f32⟩
  | .hbm, ⟨7, _⟩ => ⟨S4x32x256x4096, .f32⟩
  | .hbm, ⟨8, _⟩ => ⟨S_, .f32⟩
  | .hbm, ⟨9, _⟩ => ⟨S4x32x256x4096, .f32⟩
  | .hbm, ⟨10, _⟩ => ⟨S4x32x256x4096, .f32⟩
  | .hbm, ⟨11, _⟩ => ⟨S_, .f32⟩
  | .hbm, ⟨12, _⟩ => ⟨S4x32x256, .f32⟩
  | .hbm, ⟨13, _⟩ => ⟨S4x32x256x1, .f32⟩
  | .hbm, ⟨14, _⟩ => ⟨S4x32x256x4096, .f32⟩
  | .hbm, ⟨15, _⟩ => ⟨S4x32x256x4096, .f32⟩
  | .hbm, ⟨16, _⟩ => ⟨S4x32x256x4096, .f32⟩
  | .hbm, ⟨17, _⟩ => ⟨S_, .f32⟩
  | .hbm, ⟨18, _⟩ => ⟨S4x32x256, .f32⟩
  | .hbm, ⟨19, _⟩ => ⟨S4x32x256x1, .f32⟩
  | .hbm, ⟨20, _⟩ => ⟨S4x32x128x256, .f32⟩
  | .hbm, ⟨21, _⟩ => ⟨S4x256x32x128, .f32⟩
  | .hbm, ⟨22, _⟩ => ⟨S4x256x32x1, .f32⟩
  | .hbm, ⟨23, _⟩ => ⟨S4x256x32x128, .f32⟩
  | .hbm, ⟨24, _⟩ => ⟨S4x256x32x128, .f32⟩
  | .hbm, ⟨25, _⟩ => ⟨S4x256x4096, .f32⟩
  | .hbm, ⟨26, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Prog.lean ====
/-
# The kernel's body written stage by stage

The printed body is one long sequence of memory operations. Here it is written again as a short program over named
steps — start the copy of a chunk, wait for a chunk, one head, one stage —, and `body_eq` says that the printed
body IS that program. Nothing is reordered, merged or left out: the equation holds by unfolding both sides.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic Idealize.ShloMosaic.TcCoe
open Idealize.SL.Sem

variable {F : FTy → Type} [FloatOps F]

/-! ## The buffers -/

abbrev xInM : Memref sig .tc .vmem S1x256x1024 .f32 := Memref.whole cc0_stg0_0
abbrev wqInM : Memref sig .tc .vmem S1024x1024 .f32 := Memref.whole cc0_stg1_0
abbrev woInM : Memref sig .tc .vmem S1024x1024 .f32 := Memref.whole cc0_stg2_0
abbrev outM : Memref sig .tc .vmem S1x256x1024 .f32 := Memref.whole cc0_stg3_0
abbrev kM : Memref sig .tc .hbm S4x4096x32x128 .f32 := Memref.whole main_arg3
abbrev vM : Memref sig .tc .hbm S4x4096x32x128 .f32 := Memref.whole main_arg4
abbrev xallM : Memref sig .tc .vmem S4x256x1024 .bf16 := Memref.whole cc0_scratch0
abbrev wqM : Memref sig .tc .vmem S1024x1024 .bf16 := Memref.whole cc0_scratch1
abbrev woM : Memref sig .tc .vmem S1024x1024 .bf16 := Memref.whole cc0_scratch2
abbrev kbufM : Memref sig .tc .vmem S3x4096x256 .f32 := Memref.whole cc0_scratch3
abbrev vbufM : Memref sig .tc .vmem S3x4096x256 .f32 := Memref.whole cc0_scratch4
abbrev obufM : Memref sig .tc .vmem S256x1024 .bf16 := Memref.whole cc0_scratch5
abbrev psM : Memref sig .tc .vmem S3x256x1024 .bf16 := Memref.whole cc0_scratch6
abbrev prM : Memref sig .tc .vmem S4x256x1024 .bf16 := Memref.whole cc0_scratch7

/-! ## Slots lie inside their buffers -/

theorem inb4 (s : ℕ) (h : s < 4) : ∀ a, (![s, 0, 0] : Fin 3 → Nat) a + S1x256x1024.size a ≤ S4x256x1024.size a :=
  (by decide : ∀ s : Fin 4, ∀ a, (![s.val, 0, 0] : Fin 3 → Nat) a + S1x256x1024.size a ≤ S4x256x1024.size a) ⟨s, h⟩
theorem inb3 (s : ℕ) (h : s < 3) : ∀ a, (![s, 0, 0] : Fin 3 → Nat) a + S1x256x1024.size a ≤ S3x256x1024.size a :=
  (by decide : ∀ s : Fin 3, ∀ a, (![s.val, 0, 0] : Fin 3 → Nat) a + S1x256x1024.size a ≤ S3x256x1024.size a) ⟨s, h⟩
theorem inbKV (s : ℕ) (h : s < 3) : ∀ a, (![s, 0, 0] : Fin 3 → Nat) a + S1x4096x256.size a ≤ S3x4096x256.size a :=
  (by decide : ∀ s : Fin 3, ∀ a, (![s.val, 0, 0] : Fin 3 → Nat) a + S1x4096x256.size a ≤ S3x4096x256.size a) ⟨s, h⟩
theorem inbKVh (s k : ℕ) (h : s < 3) (hk : k < 2) : ∀ a, (![s, 0, 128 * k] : Fin 3 → Nat) a + S1x4096x128.size a ≤ S3x4096x256.size a :=
  (by decide : ∀ s : Fin 3, ∀ k : Fin 2, ∀ a, (![s.val, 0, 128 * k.val] : Fin 3 → Nat) a + S1x4096x128.size a ≤ S3x4096x256.size a) ⟨s, h⟩ ⟨k, hk⟩
theorem inbO (n : ℕ) (h : n < 8) : ∀ a, (![0, 128 * n] : Fin 2 → Nat) a + S256x128.size a ≤ S256x1024.size a :=
  (by decide : ∀ n : Fin 8, ∀ a, (![0, 128 * n.val] : Fin 2 → Nat) a + S256x128.size a ≤ S256x1024.size a) ⟨n, h⟩
theorem inbS3 (s : ℕ) (h : s < 3) : ∀ a, (![s] : Fin 1 → Nat) a + S1.size a ≤ S3.size a :=
  (by decide : ∀ s : Fin 3, ∀ a, (![s.val] : Fin 1 → Nat) a + S1.size a ≤ S3.size a) ⟨s, h⟩
theorem inbS4 (s : ℕ) (h : s < 4) : ∀ a, (![s] : Fin 1 → Nat) a + S1.size a ≤ S4.size a :=
  (by decide : ∀ s : Fin 4, ∀ a, (![s.val] : Fin 1 → Nat) a + S1.size a ≤ S4.size a) ⟨s, h⟩
theorem inbS32 (s j : ℕ) (h : s < 3) (hj : j < 2) : ∀ a, (![s, j] : Fin 2 → Nat) a + S1x1.size a ≤ S3x2.size a :=
  (by decide : ∀ s : Fin 3, ∀ j : Fin 2, ∀ a, (![s.val, j.val] : Fin 2 → Nat) a + S1x1.size a ≤ S3x2.size a) ⟨s, h⟩ ⟨j, hj⟩
theorem words4 (s : ℕ) (h : s < 4) : (Rect.unit (s := S4x256x1024) ![s, 0, 0] S1x256x1024.size (inb4 s h)).WholeWords (EltTy.packing .bf16) :=
  (by decide : ∀ s : Fin 4, (Rect.unit (s := S4x256x1024) ![s.val, 0, 0] S1x256x1024.size (inb4 s.val s.isLt)).WholeWords (EltTy.packing .bf16)) ⟨s, h⟩
theorem words3 (s : ℕ) (h : s < 3) : (Rect.unit (s := S3x256x1024) ![s, 0, 0] S1x256x1024.size (inb3 s h)).WholeWords (EltTy.packing .bf16) :=
  (by decide : ∀ s : Fin 3, (Rect.unit (s := S3x256x1024) ![s.val, 0, 0] S1x256x1024.size (inb3 s.val s.isLt)).WholeWords (EltTy.packing .bf16)) ⟨s, h⟩
theorem packed3 (s : ℕ) (h : s < 3) : (Rect.unit (s := S3x256x1024) ![s, 0, 0] S1x256x1024.size (inb3 s h)).PackedRows (EltTy.packing .bf16) :=
  (by decide : ∀ s : Fin 3, (Rect.unit (s := S3x256x1024) ![s.val, 0, 0] S1x256x1024.size (inb3 s.val s.isLt)).PackedRows (EltTy.packing .bf16)) ⟨s, h⟩
theorem packedO (n : ℕ) (h : n < 8) : (Rect.unit (s := S256x1024) ![0, 128 * n] S256x128.size (inbO n h)).PackedRows (EltTy.packing .bf16) :=
  (by decide : ∀ n : Fin 8, (Rect.unit (s := S256x1024) ![0, 128 * n.val] S256x128.size (inbO n.val n.isLt)).PackedRows (EltTy.packing .bf16)) ⟨n, h⟩
theorem slicesQ (n : ℕ) (h : n < 8) : S256x1024.Slices ![0, 128 * n] S256x128 :=
  (by decide : ∀ n : Fin 8, S256x1024.Slices ![0, 128 * n.val] S256x128) ⟨n, h⟩

/-! ## Slots, chunks and semaphores as the body names them -/

/-- Slot `s` of the gathered `x`. -/
abbrev xSlot (s : ℕ) (h : s < 4) : Memref sig .tc .vmem S256x1024 .bf16 :=
  (xallM.slice (Rect.unit (s := S4x256x1024) ![s, 0, 0] S1x256x1024.size (inb4 s h)) (fun _ => rfl)).squeeze S256x1024 squeezes_S1x256x1024_S256x1024
/-- Slot `s` of the partial results to send. -/
abbrev psSlot (s : ℕ) (h : s < 3) : Memref sig .tc .vmem S256x1024 .bf16 :=
  (psM.slice (Rect.unit (s := S3x256x1024) ![s, 0, 0] S1x256x1024.size (inb3 s h)) (fun _ => rfl)).squeeze S256x1024 squeezes_S1x256x1024_S256x1024
/-- Slot `s` of the partial results received. -/
abbrev prSlot (s : ℕ) (h : s < 4) : Memref sig .tc .vmem S256x1024 .bf16 :=
  (prM.slice (Rect.unit (s := S4x256x1024) ![s, 0, 0] S1x256x1024.size (inb4 s h)) (fun _ => rfl)).squeeze S256x1024 squeezes_S1x256x1024_S256x1024
/-- Slot `s` of a buffer of key (or value) chunks. -/
abbrev kvSlot (b : Memref sig .tc .vmem S3x4096x256 .f32) (s : ℕ) (h : s < 3) : Memref sig .tc .vmem S4096x256 .f32 :=
  (b.slice (Rect.unit (s := S3x4096x256) ![s, 0, 0] S1x4096x256.size (inbKV s h)) (fun _ => rfl)).squeeze S4096x256 squeezes_S1x4096x256_S4096x256
/-- Chunk `(d, g)` of the keys (or values) in HBM, as device `c` cuts it: two heads of batch `c + d`. -/
abbrev kvSrc (b : Memref sig .tc .hbm S4x4096x32x128 .f32) (hb : b.IsWhole) (c : Dev nD) (d g : Fin 4) : Memref sig .tc .hbm S4096x256 .f32 :=
  ((b.reshape S4x4096x4096 reshapes_S4x4096x32x128_S4x4096x4096.1 reshapes_S4x4096x32x128_S4x4096x4096.2 hb.contiguous).slice
    (Rect.unit (s := S4x4096x4096) (k0_off1 c (BitVec.ofNat 32 d.val) (BitVec.ofNat 32 (256 * g.val))) S1x4096x256.size (k0_off1_inb c d g)) (fun _ => rfl)).squeeze
    S4096x256 squeezes_S1x4096x256_S4096x256

abbrev agSendSem (i : ℕ) (h : i < 3) : DmaSem sig :=
  ((cc0_scratch8.slice (Rect.unit (s := S3) ![i] S1.size (inbS3 i h))).squeeze S_ squeezes_S1_S_).sem
abbrev agRecvSem (i : ℕ) (h : i < 4) : DmaSem sig :=
  ((cc0_scratch9.slice (Rect.unit (s := S4) ![i] S1.size (inbS4 i h))).squeeze S_ squeezes_S1_S_).sem
abbrev psSendSem (i : ℕ) (h : i < 3) : DmaSem sig :=
  ((cc0_scratch10.slice (Rect.unit (s := S3) ![i] S1.size (inbS3 i h))).squeeze S_ squeezes_S1_S_).sem
abbrev prRecvSem (i : ℕ) (h : i < 4) : DmaSem sig :=
  ((cc0_scratch11.slice (Rect.unit (s := S4) ![i] S1.size (inbS4 i h))).squeeze S_ squeezes_S1_S_).sem
abbrev kvSem (s j : ℕ) (h : s < 3) (hj : j < 2) : DmaSem sig :=
  ((cc0_scratch12.slice (Rect.unit (s := S3x2) ![s, j] S1x1.size (inbS32 s j h hj))).squeeze S_ squeezes_S1x1_S_).sem
abbrev barSem : Sem sig := (SemArray.scalar (sig.barrier 0 rfl) : Sems sig S_).sem

/-! ## What the body computes between its memory operations -/

/-- The scaled scores of head `n` of the queries `q` against the keys `k`. -/
def headScores (n : ℕ) (h : n < 8) (q : FVec F S256x1024 .bf16) (k : Vec F S1x4096x128 .f32) : FVec F S256x4096 .f32 :=
  mulf (matmul dot_S256x128_S4096x128_S256x4096_1_1_0_0_n_n none
      (extractStridedSlice S256x128 ![0, 128 * n] q (slicesQ n h))
      (truncf .bf16 (shapeCast S4096x128 k shapeCasts_S1x4096x128_S4096x128) bitsLt_bf16_f32)
      (constant S256x4096 .f32 0x00000000#32))
    (broadcast S256x4096 (Scalar.ofBits .f32 0x3DB504F3#32))
/-- The exponentials of the scores less their row's maximum. -/
def headExp (s : FVec F S256x4096 .f32) : FVec F S256x4096 .f32 :=
  exp (subf s (broadcastTo S256x4096
    (shapeCast S256x1 (multiReduction .maximumf [1] S256 s 0xFF800000#32 reduces_S256x4096_S256 (.inl rfl) rfl) shapeCasts_S256_S256x1)
    broadcasts_S256x1_S256x4096))
/-- The exponentials applied to the values, each row divided by its sum. -/
def headApply (p : FVec F S256x4096 .f32) (v : Vec F S1x4096x128 .f32) : FVec F S256x128 .bf16 :=
  truncf .bf16 (divf
    (matmul dot_S256x4096_S4096x128_S256x128_1_0_0_1_n_n none (truncf .bf16 p bitsLt_bf16_f32)
      (truncf .bf16 (shapeCast S4096x128 v shapeCasts_S1x4096x128_S4096x128) bitsLt_bf16_f32) (constant S256x128 .f32 0x00000000#32))
    (broadcastTo S256x128
      (shapeCast S256x1 (multiReduction .add [1] S256 p 0x00000000#32 reduces_S256x4096_S256 (.inl rfl) rfl) shapeCasts_S256_S256x1)
      broadcasts_S256x1_S256x128)) bitsLt_bf16_f32
/-- What head `n` stores. -/
def headOut (n : ℕ) (h : n < 8) (q : FVec F S256x1024 .bf16) (k v : Vec F S1x4096x128 .f32) : FVec F S256x128 .bf16 :=
  shapeCast S256x128 (headApply (headExp (headScores n h q k)) v) shapeCasts_S256x128_S256x128

/-! ## The steps -/

/-- A program of the body. -/
abbrev KProg (F : FTy → Type) (α : Type) := Prog (TpuEff nD τ sig (Elt F) Λ₀ .tc) α

/-- Start the copies of chunk `(d, g)` of the keys and of the values into slot `s`. -/
def startK (c : Dev nD) (s : ℕ) (hs : s < 3) (d g : Fin 4) : KProg F PUnit :=
  Prog.lift (.enqueueDma (kvSrc kM (Memref.isWhole_whole _) c d g) (.here (kvSlot kbufM s hs)) (.dma (kvSem s 0 hs (by decide)))
    ((View.wordExact_bits rfl).reshape _ _) ((View.wordExact_bits rfl).reshape _ _) ⟨Or.inl rfl, trivial⟩)
def startV (c : Dev nD) (s : ℕ) (hs : s < 3) (d g : Fin 4) : KProg F PUnit :=
  Prog.lift (.enqueueDma (kvSrc vM (Memref.isWhole_whole _) c d g) (.here (kvSlot vbufM s hs)) (.dma (kvSem s 1 hs (by decide)))
    ((View.wordExact_bits rfl).reshape _ _) ((View.wordExact_bits rfl).reshape _ _) ⟨Or.inl rfl, trivial⟩)
/-- Wait for the copies of chunk `(d, g)` into slot `s`. -/
def waitK (c : Dev nD) (s : ℕ) (hs : s < 3) (d g : Fin 4) : KProg F PUnit :=
  Prog.lift (.waitDma2 (kvSem s 0 hs (by decide)) (kvSrc kM (Memref.isWhole_whole _) c d g) (kvSlot kbufM s hs)
    ((View.wordExact_bits rfl).reshape _ _) ((View.wordExact_bits rfl).reshape _ _))
def waitV (c : Dev nD) (s : ℕ) (hs : s < 3) (d g : Fin 4) : KProg F PUnit :=
  Prog.lift (.waitDma2 (kvSem s 1 hs (by decide)) (kvSrc vM (Memref.isWhole_whole _) c d g) (kvSlot vbufM s hs)
    ((View.wordExact_bits rfl).reshape _ _) ((View.wordExact_bits rfl).reshape _ _))
/-- Half `k` of the chunk in slot `s` of a buffer. -/
def loadHalf (b : Memref sig .tc .vmem S3x4096x256 .f32) (s k : ℕ) (hs : s < 3) (hk : k < 2) : KProg F (Vec F S1x4096x128 .f32) :=
  Prog.lift (.load b (Rect.unit (s := S3x4096x256) ![s, 0, 128 * k] S1x4096x128.size (inbKVh s k hs hk)).toLoadRect (View.loadsAt_vmem h_S1x4096x128))
/-- Head `n` of the stage: its keys and values are half `k` of slot `s`. -/
def head (s k n : ℕ) (hs : s < 3) (hk : k < 2) (hn : n < 8) (q : FVec F S256x1024 .bf16) : KProg F PUnit := do
  let kb ← loadHalf kbufM s k hs hk
  let vb ← loadHalf vbufM s k hs hk
  let _ ← (Prog.lift (.load obufM (Rect.unit (s := S256x1024) ![0, 128 * n] S256x128.size (inbO n hn)).toLoadRect (View.loadsAt_vmem h_S256x128)) : KProg F (Vec F S256x128 .bf16))
  Prog.lift (.store obufM (Rect.unit (s := S256x1024) ![0, 128 * n] S256x128.size (inbO n hn)) (headOut n hn q kb vb) Finset.univ
    (View.stores_vmem h_S256x128 ((Memref.isWhole_whole _).storeExact_slice rfl _ (packedO n hn)) (fun _ => rfl)) (.inl rfl))
/-- Load slot `s` of the gathered `x`. -/
def loadX (s : ℕ) (h : s < 4) : KProg F (Vec F S1x256x1024 .bf16) :=
  Prog.lift (.load xallM (Rect.unit (s := S4x256x1024) ![s, 0, 0] S1x256x1024.size (inb4 s h)).toLoadRect (View.loadsAt_vmem h_S1x256x1024))
def loadPs (s : ℕ) (h : s < 3) : KProg F (Vec F S1x256x1024 .bf16) :=
  Prog.lift (.load psM (Rect.unit (s := S3x256x1024) ![s, 0, 0] S1x256x1024.size (inb3 s h)).toLoadRect (View.loadsAt_vmem h_S1x256x1024))
def loadPr (s : ℕ) (h : s < 4) : KProg F (Vec F S1x256x1024 .bf16) :=
  Prog.lift (.load prM (Rect.unit (s := S4x256x1024) ![s, 0, 0] S1x256x1024.size (inb4 s h)).toLoadRect (View.loadsAt_vmem h_S1x256x1024))
/-- A whole 1024×1024 matrix. -/
def loadW {e : EltTy} (b : Memref sig .tc .vmem S1024x1024 e) : KProg F (Vec F S1024x1024 e) :=
  Prog.lift (.load b (Rect.unit (s := S1024x1024) ![0, 0] S1024x1024.size inb_S1024x1024_S1024x1024_0_0).toLoadRect (View.loadsAt_vmem h_S1024x1024))
def loadO : KProg F (Vec F S256x1024 .bf16) :=
  Prog.lift (.load obufM (Rect.unit (s := S256x1024) ![0, 0] S256x1024.size inb_S256x1024_S256x1024_0_0).toLoadRect (View.loadsAt_vmem h_S256x1024))
/-- Store a slot of the gathered `x`, a cast matrix, a partial result to send. -/
def storeX0 (w : FVec F S1x256x1024 .bf16) : KProg F PUnit :=
  Prog.lift (.store xallM (Rect.unit (s := S4x256x1024) ![0, 0, 0] S1x256x1024.size (inb4 0 (by decide))) w Finset.univ
    (View.stores_vmem h_S1x256x1024 ((Memref.isWhole_whole _).storeExact_slice rfl _ packedbf16_S4x256x1024_S1x256x1024_0_0_0) (fun _ => rfl)) (.inl rfl))
def storePs (s : ℕ) (h : s < 3) (w : FVec F S1x256x1024 .bf16) : KProg F PUnit :=
  Prog.lift (.store psM (Rect.unit (s := S3x256x1024) ![s, 0, 0] S1x256x1024.size (inb3 s h)) w Finset.univ
    (View.stores_vmem h_S1x256x1024 ((Memref.isWhole_whole _).storeExact_slice rfl _ (packed3 s h)) (fun _ => rfl)) (.inl rfl))
def storeW (b : Memref sig .tc .vmem S1024x1024 .bf16) (hb : b.IsWhole) (w : FVec F S1024x1024 .bf16) : KProg F PUnit :=
  Prog.lift (.store b (Rect.unit (s := S1024x1024) ![0, 0] S1024x1024.size inb_S1024x1024_S1024x1024_0_0) w Finset.univ
    (View.stores_vmem h_S1024x1024 (hb.storeExact_slice rfl _ packedbf16_S1024x1024_S1024x1024_0_0) (fun _ => rfl)) (.inl rfl))
/-- Send slot 0 of the gathered `x` to slot `s` of device `e`. -/
def sendX (e : Dev nD) (s i : ℕ) (hs : s < 4) (hi : i < 3) : KProg F PUnit :=
  Prog.lift (.enqueueDma (xSlot 0 (by decide)) (.remote (Dev.tc e) (xSlot s hs) (.dma (agSendSem i hi))) (.dma (agRecvSem s hs))
    (((Memref.isWhole_whole _).wordExact_slice rfl _ (words4 0 (by decide))).reshape _ _) (((Memref.isWhole_whole _).wordExact_slice rfl _ (words4 s hs)).reshape _ _)
    ⟨⟨rfl, Or.inl rfl⟩, trivial⟩)
/-- Send the partial result in slot `i` to slot `s` of device `e`. -/
def sendPs (e : Dev nD) (s i : ℕ) (hs : s < 4) (hi : i < 3) : KProg F PUnit :=
  Prog.lift (.enqueueDma (psSlot i hi) (.remote (Dev.tc e) (prSlot s hs) (.dma (psSendSem i hi))) (.dma (prRecvSem s hs))
    (((Memref.isWhole_whole _).wordExact_slice rfl _ (words3 i hi)).reshape _ _) (((Memref.isWhole_whole _).wordExact_slice rfl _ (words4 s hs)).reshape _ _)
    ⟨⟨rfl, Or.inl rfl⟩, trivial⟩)
def waitXRecv (s : ℕ) (hs : s < 4) : KProg F PUnit :=
  Prog.lift (.waitDma2 (agRecvSem s hs) (xSlot 0 (by decide)) (xSlot s hs)
    (((Memref.isWhole_whole _).wordExact_slice rfl _ (words4 0 (by decide))).reshape _ _) (((Memref.isWhole_whole _).wordExact_slice rfl _ (words4 s hs)).reshape _ _))
def waitPrRecv (s : ℕ) (hs : s < 4) : KProg F PUnit :=
  Prog.lift (.waitDma2 (prRecvSem s hs) (psSlot 0 (by decide)) (prSlot s hs)
    (((Memref.isWhole_whole _).wordExact_slice rfl _ (words3 0 (by decide))).reshape _ _) (((Memref.isWhole_whole _).wordExact_slice rfl _ (words4 s hs)).reshape _ _))
def waitXSend (i s : ℕ) (hi : i < 3) (hs : s < 4) : KProg F PUnit :=
  Prog.lift (.waitDma2 (agSendSem i hi) (xSlot s hs) (xSlot 0 (by decide))
    (((Memref.isWhole_whole _).wordExact_slice rfl _ (words4 s hs)).reshape _ _) (((Memref.isWhole_whole _).wordExact_slice rfl _ (words4 0 (by decide))).reshape _ _))
def waitPsSend (i s : ℕ) (hi : i < 3) (hs : s < 4) : KProg F PUnit :=
  Prog.lift (.waitDma2 (psSendSem i hi) (prSlot s hs) (psSlot i hi)
    (((Memref.isWhole_whole _).wordExact_slice rfl _ (words4 s hs)).reshape _ _) (((Memref.isWhole_whole _).wordExact_slice rfl _ (words3 i hi)).reshape _ _))

/-! ## The program -/

/-- One chunk without the copy that follows it: wait for chunk `(d, g)` in slot `s`, then its two heads. -/
def chunk (c : Dev nD) (s : ℕ) (hs : s < 3) (d g : Fin 4) (q : FVec F S256x1024 .bf16) : KProg F PUnit := do
  waitK c s hs d g
  waitV c s hs d g
  head s 0 (2 * g.val) hs (by decide) (by omega) q
  head s 1 (2 * g.val + 1) hs (by decide) (by omega) q
/-- One chunk, then the copy of chunk `(d', g')` into the slot it has freed. -/
def chunkNext (c : Dev nD) (s : ℕ) (hs : s < 3) (d g d' g' : Fin 4) (q : FVec F S256x1024 .bf16) : KProg F PUnit := do
  chunk c s hs d g q
  startK c s hs d' g'
  startV c s hs d' g'
/-- The queries of stage `s`. -/
def queries (s : ℕ) (h : s < 4) : KProg F (FVec F S256x1024 .bf16) := do
  let xb ← loadX s h
  let wb ← loadW wqM
  pure (k0_pay4 xb wb)
/-- The end of stage `i + 1`: the partial result is stored and sent. -/
def partSend (e : Dev nD) (s i : ℕ) (hs : s < 4) (hi : i < 3) : KProg F PUnit := do
  let o ← loadO
  let w ← loadW woM
  let _ ← loadPs i hi
  storePs i hi (k0_pay40 o w)
  sendPs e s i hs hi

/-- From the body's first operation to the first copies of keys and values. -/
def prologue (c : Dev nD) : KProg F PUnit := do
  semSignalWord (⟨k0_dev1 c, k0_dev1_lt c⟩ : Dev nD) barSem 1#32
  semSignalWord (⟨k0_dev2 c, k0_dev2_lt c⟩ : Dev nD) barSem 1#32
  semSignalWord (⟨k0_dev3 c, k0_dev3_lt c⟩ : Dev nD) barSem 1#32
  semWaitWord barSem 3#32
  let x ← (Prog.lift (.load xInM (Rect.unit (s := S1x256x1024) ![0, 0, 0] S1x256x1024.size inb_S1x256x1024_S1x256x1024_0_0_0).toLoadRect (View.loadsAt_vmem h_S1x256x1024)) : KProg F (Vec F S1x256x1024 .f32))
  let _ ← loadX 0 (by decide)
  storeX0 (k0_pay1 x)
  sendX ⟨k0_dev4 c, k0_dev4_lt c⟩ 3 0 (by decide) (by decide)
  sendX ⟨k0_dev5 c, k0_dev5_lt c⟩ 2 1 (by decide) (by decide)
  sendX ⟨k0_dev6 c, k0_dev6_lt c⟩ 1 2 (by decide) (by decide)
  let wq ← loadW wqInM
  let _ ← loadW wqM
  storeW wqM (Memref.isWhole_whole _) (k0_pay2 wq)
  let wo ← loadW woInM
  let _ ← loadW woM
  storeW woM (Memref.isWhole_whole _) (k0_pay3 wo)
  startK c 0 (by decide) 0 0
  startV c 0 (by decide) 0 0
  startK c 1 (by decide) 0 1
  startV c 1 (by decide) 0 1
  startK c 2 (by decide) 0 2
  startV c 2 (by decide) 0 2

/-- Stage 0, on the device's own rows: the partial result stays in the device. -/
def stage0 (c : Dev nD) : KProg F (FVec F S256x1024 .f32) := do
  let q ← queries 0 (by decide)
  chunkNext c 0 (by decide) 0 0 0 3 q
  chunkNext c 1 (by decide) 0 1 1 0 q
  chunkNext c 2 (by decide) 0 2 1 1 q
  chunkNext c 0 (by decide) 0 3 1 2 q
  let o ← loadO
  let w ← loadW woM
  pure (k0_pay23 o w)
/-- Stage 1. -/
def stage1 (c : Dev nD) : KProg F PUnit := do
  waitXRecv 1 (by decide)
  let q ← queries 1 (by decide)
  chunkNext c 1 (by decide) 1 0 1 3 q
  chunkNext c 2 (by decide) 1 1 2 0 q
  chunkNext c 0 (by decide) 1 2 2 1 q
  chunkNext c 1 (by decide) 1 3 2 2 q
  partSend ⟨k0_dev7 c, k0_dev7_lt c⟩ 3 0 (by decide) (by decide)
/-- Stage 2. -/
def stage2 (c : Dev nD) : KProg F PUnit := do
  waitXRecv 2 (by decide)
  let q ← queries 2 (by decide)
  chunkNext c 2 (by decide) 2 0 2 3 q
  chunkNext c 0 (by decide) 2 1 3 0 q
  chunkNext c 1 (by decide) 2 2 3 1 q
  chunkNext c 2 (by decide) 2 3 3 2 q
  partSend ⟨k0_dev8 c, k0_dev8_lt c⟩ 2 1 (by decide) (by decide)
/-- Stage 3. -/
def stage3 (c : Dev nD) : KProg F PUnit := do
  waitXRecv 3 (by decide)
  let q ← queries 3 (by decide)
  chunkNext c 0 (by decide) 3 0 3 3 q
  chunk c 1 (by decide) 3 1 q
  chunk c 2 (by decide) 3 2 q
  chunk c 0 (by decide) 3 3 q
  partSend ⟨k0_dev9 c, k0_dev9_lt c⟩ 1 2 (by decide) (by decide)
/-- The sum of the four partial results, and the waits for what was sent. -/
def epilogue (p : FVec F S256x1024 .f32) : KProg F PUnit := do
  waitPrRecv 1 (by decide)
  let r1 ← loadPr 1 (by decide)
  waitPrRecv 2 (by decide)
  let r2 ← loadPr 2 (by decide)
  waitPrRecv 3 (by decide)
  let r3 ← loadPr 3 (by decide)
  waitXSend 0 3 (by decide) (by decide)
  waitXSend 1 2 (by decide) (by decide)
  waitXSend 2 1 (by decide) (by decide)
  waitPsSend 0 3 (by decide) (by decide)
  waitPsSend 1 2 (by decide) (by decide)
  waitPsSend 2 1 (by decide) (by decide)
  let _ ← (Prog.lift (.load outM (Rect.unit (s := S1x256x1024) ![0, 0, 0] S1x256x1024.size inb_S1x256x1024_S1x256x1024_0_0_0).toLoadRect (View.loadsAt_vmem h_S1x256x1024)) : KProg F (Vec F S1x256x1024 .f32))
  Prog.lift (.store outM (Rect.unit (s := S1x256x1024) ![0, 0, 0] S1x256x1024.size inb_S1x256x1024_S1x256x1024_0_0_0) (k0_pay76 (k0_pay75 (k0_pay74 p r1 r2) r3)) Finset.univ
    (View.stores_vmem_bits_univ h_S1x256x1024 rfl) (.inl rfl))

/-- The body of device `c`. -/
def body (c : Dev nD) : KProg F PUnit := do
  prologue c
  let p ← stage0 c
  stage1 c
  stage2 c
  stage3 c
  epilogue p

set_option maxRecDepth 65536 in
/-- The printed body is this program, run at the device's own id. -/
theorem body_eq : cc0_body (F := F) xInM (Memref.isWhole_whole _) wqInM (Memref.isWhole_whole _) woInM (Memref.isWhole_whole _) kM (Memref.isWhole_whole _)
      vM (Memref.isWhole_whole _) outM (Memref.isWhole_whole _) xallM (Memref.isWhole_whole _) wqM (Memref.isWhole_whole _) woM (Memref.isWhole_whole _)
      kbufM (Memref.isWhole_whole _) vbufM (Memref.isWhole_whole _) obufM (Memref.isWhole_whole _) psM (Memref.isWhole_whole _) prM (Memref.isWhole_whole _)
      cc0_scratch8 cc0_scratch9 cc0_scratch10 cc0_scratch11 cc0_scratch12
    = (Prog.lift .deviceId >>= fun c => body (F := F) c) := by
  chain_rfl

end Cert.Attn
-- ==== Proof.Proto.lean ====
/-
# The protocol: the cells, what each pays and hands over, what each device owes

Device `c` and the device `up c j`, `j + 1` places after it on the ring, exchange rows: `c`'s slot `i + 1` (of the gathered
`x`, and of the partial results) is filled by `up c i`. Every cell has one round.

* the barrier cell of `c` has three duties of one unit; duty `i` is paid by the device whose `up · i` is `c`, and hands
  over slot `i + 1` of that device's two receive buffers: the right to write there;
* a receive cell has one duty of the block's credit, paid by the copy that fills the slot: it hands over the slot filled;
* a send cell has one duty of the block's credit: it hands back what was read.
-/
module

public import proofs.«01_k».proof.Proof.Prog
public import Idealize.ShloMosaic.Lib.Transfers
public import Idealize.ShloMosaic.Lib.ValueLayout

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's copy of the rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

/-- The device `j + 1` places after `c`. -/
def up (c : Dev nD) (j : Fin 3) : Dev nD := ⟨(c.val + (j.val + 1)) % 4, Nat.mod_lt _ (by decide)⟩

theorem up_rev (c : Dev nD) (j : Fin 3) : up (up c j) j.rev = c := by revert c j; decide
theorem rev_up (c : Dev nD) (j : Fin 3) : up (up c j.rev) j = c := by revert c j; decide

/-- Going `j + 1` places on, as a permutation of the devices. -/
def turn (j : Fin 3) : Dev nD ≃ Dev nD := ⟨fun c => up c j, fun c => up c j.rev, fun c => up_rev c j, fun c => rev_up c j⟩

theorem dev1_eq (c : Dev nD) : (⟨k0_dev1 c, k0_dev1_lt c⟩ : Dev nD) = up c 0 := by revert c; decide
theorem dev2_eq (c : Dev nD) : (⟨k0_dev2 c, k0_dev2_lt c⟩ : Dev nD) = up c 1 := by revert c; decide
theorem dev3_eq (c : Dev nD) : (⟨k0_dev3 c, k0_dev3_lt c⟩ : Dev nD) = up c 2 := by revert c; decide
theorem dev4_eq (c : Dev nD) : (⟨k0_dev4 c, k0_dev4_lt c⟩ : Dev nD) = up c 0 := by revert c; decide
theorem dev5_eq (c : Dev nD) : (⟨k0_dev5 c, k0_dev5_lt c⟩ : Dev nD) = up c 1 := by revert c; decide
theorem dev6_eq (c : Dev nD) : (⟨k0_dev6 c, k0_dev6_lt c⟩ : Dev nD) = up c 2 := by revert c; decide
theorem dev7_eq (c : Dev nD) : (⟨k0_dev7 c, k0_dev7_lt c⟩ : Dev nD) = up c 0 := by revert c; decide
theorem dev8_eq (c : Dev nD) : (⟨k0_dev8 c, k0_dev8_lt c⟩ : Dev nD) = up c 1 := by revert c; decide
theorem dev9_eq (c : Dev nD) : (⟨k0_dev9 c, k0_dev9_lt c⟩ : Dev nD) = up c 2 := by revert c; decide

/-! ## The cells -/

/-- The protocol's cells of a device: its barrier, and for each of the three peers a send and a receive cell of the
    gather and of the scatter. -/
inductive RC where
  | bar
  | agS (i : Fin 3)
  | agR (i : Fin 3)
  | psS (i : Fin 3)
  | prR (i : Fin 3)
deriving DecidableEq

/-- All thirteen of them. -/
abbrev allRC : List RC := [.bar, .agS 0, .agS 1, .agS 2, .agR 0, .agR 1, .agR 2, .psS 0, .psS 1, .psS 2, .prR 0, .prR 1, .prR 2]

set_option backward.proofsInPublic true in
instance : Fintype RC where
  elems := ⟨allRC, by decide⟩
  complete := fun k => by
    have h : k ∈ allRC := by
      cases k with
      | bar => decide
      | agS i => revert i; decide
      | agR i => revert i; decide
      | psS i => revert i; decide
      | prR i => revert i; decide
    exact h

/-- Their semaphores. -/
abbrev csem : RC → SemLoc sig
  | .bar => .reg barSem
  | .agS i => .dma (agSendSem i.val i.isLt)
  | .agR i => .dma (agRecvSem (i.val + 1) (by omega))
  | .psS i => .dma (psSendSem i.val i.isLt)
  | .prR i => .dma (prRecvSem (i.val + 1) (by omega))

/-- Which of the protocol's cells a semaphore is, if any. -/
def kind : SemLoc sig → Option RC
  | .reg _ => some .bar
  | .dma q =>
    if h : 4 ≤ q.val ∧ q.val < 7 then some (.agS ⟨q.val - 4, by omega⟩)
    else if h : 8 ≤ q.val ∧ q.val < 11 then some (.agR ⟨q.val - 8, by omega⟩)
    else if h : 11 ≤ q.val ∧ q.val < 14 then some (.psS ⟨q.val - 11, by omega⟩)
    else if h : 15 ≤ q.val ∧ q.val < 18 then some (.prR ⟨q.val - 15, by omega⟩)
    else none

theorem kind_csem (k : RC) : kind (csem k) = some k := by revert k; decide

theorem csem_injective : Function.Injective csem := fun k k' h => by
  have := congrArg kind h; rw [kind_csem, kind_csem] at this; exact Option.some.inj this

abbrev cell (c : Dev nD) (k : RC) : GSem nD τ sig := ((c : Thread nD τ), csem k)
abbrev kcell (ck : Dev nD × RC) : GSem nD τ sig := cell ck.1 ck.2

theorem kcell_injective : Function.Injective (kcell : Dev nD × RC → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one block of rows. -/
abbrev N : ℕ := (xSlot 0 (by decide)).view.dmaCredit
theorem N_pos : 0 < N := View.dmaCredit_pos _ (by decide)

/-! ## Contents -/

/-- Device `c`'s blocks of the arguments as the launch stages them. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def wostg (c : Dev nD) : (cc0_stg2_0 : Ref sig .tc).ty.Contents (Elt F) :=
  (win0_2.blk (0 : Fin 1)).view.read (Elt F) ((s₀ m ρ).mem ((c : Thread nD τ).loc main_arg2))
/-- The keys and the values. -/
def karr (c : Dev nD) : Buf (Elt F) ((c : Thread nD τ).loc main_arg3) := m ((c : Thread nD τ).loc main_arg3)
def varr (c : Dev nD) : Buf (Elt F) ((c : Thread nD τ).loc main_arg4) := m ((c : Thread nD τ).loc main_arg4)

/-- Device `c`'s rows, cast. -/
def xbf (c : Dev nD) : FVec F S256x1024 .bf16 := shapeCast S256x1024 (k0_pay1 (xstg m ρ c)) shapeCasts_S1x256x1024_S256x1024
/-- The cast weights. -/
def WQB (c : Dev nD) : FVec F S1024x1024 .bf16 := k0_pay2 (wqstg m ρ c)
def WOB (c : Dev nD) : FVec F S1024x1024 .bf16 := k0_pay3 (wostg m ρ c)

/-- Rows times a weight matrix, cast: the queries. -/
def qOf (x : FVec F S256x1024 .bf16) (w : FVec F S1024x1024 .bf16) : FVec F S256x1024 .bf16 :=
  truncf .bf16 (matmul dot_S256x1024_S1024x1024_S256x1024_1_0_0_1_n_n none x w (constant S256x1024 .f32 0x00000000#32)) bitsLt_bf16_f32

/-- The device whose rows `c` works on at stage `d`. -/
def peer (c : Dev nD) (d : Fin 4) : Dev nD := ⟨(c.val + d.val) % 4, Nat.mod_lt _ (by decide)⟩
theorem peer_succ (c : Dev nD) (j : Fin 3) : peer c j.succ = up c j := by revert c j; decide
theorem peer_zero (c : Dev nD) : peer c 0 = c := by revert c; decide

/-- The queries of device `c` at stage `d`. -/
def Qv (c : Dev nD) (d : Fin 4) : FVec F S256x1024 .bf16 := qOf (xbf m ρ (peer c d)) (WQB m ρ c)

/-- Chunk `(d, g)` of the keys and of the values. -/
def chunkK (c : Dev nD) (d g : Fin 4) : Vec F S4096x256 .f32 := (kvSrc kM (Memref.isWhole_whole _) c d g).view.read (Elt F) (karr m c)
def chunkV (c : Dev nD) (d g : Fin 4) : Vec F S4096x256 .f32 := (kvSrc vM (Memref.isWhole_whole _) c d g).view.read (Elt F) (varr m c)

/-- Half `k` of a chunk: one head's columns. -/
def half (k : Fin 2) (w : Vec F S4096x256 .f32) : Vec F S1x4096x128 .f32 :=
  fun j => w (ix2 (j 1 : Fin 4096) (⟨128 * k.val + (j 2 : Fin 128).val, by have h : (j 2).val < 128 := (j 2).isLt; omega⟩ : Fin 256))

/-- What head `2 g + k` of stage `d` stores. -/
def headO (c : Dev nD) (d g : Fin 4) (k : Fin 2) : FVec F S256x128 .bf16 :=
  headOut (2 * g.val + k.val) (by omega) (Qv m ρ c d) (half k (chunkK m c d g)) (half k (chunkV m c d g))

/-- The eight heads' results of stage `d`, side by side. -/
def OB (c : Dev nD) (d : Fin 4) : FVec F S256x1024 .bf16 := fun i =>
  headO m ρ c d ⟨(i 1 : Fin 1024).val / 256, Nat.div_lt_of_lt_mul (i 1 : Fin 1024).isLt⟩ ⟨(i 1 : Fin 1024).val / 128 % 2, by omega⟩
    (ix2 (i 0 : Fin 256) (⟨(i 1 : Fin 1024).val % 128, by omega⟩ : Fin 128))

/-- The partial result of stage `d`, -/
def PART (c : Dev nD) (d : Fin 4) : FVec F S256x1024 .f32 := k0_pay23 (OB m ρ c d) (WOB m ρ c)
/-- and as it is sent after stage `j + 1`. -/
def PS (c : Dev nD) (j : Fin 3) : FVec F S256x1024 .bf16 :=
  shapeCast S256x1024 (k0_pay40 (OB m ρ c j.succ) (WOB m ρ c)) shapeCasts_S1x256x1024_S256x1024
/-- What `c` receives from `up c i`. -/
def PR (c : Dev nD) (i : Fin 3) : FVec F S256x1024 .bf16 := PS m ρ (up c i) i.rev

/-- A partial result added to a sum. -/
def addPart (a : FVec F S256x1024 .f32) (b : FVec F S256x1024 .bf16) : FVec F S256x1024 .f32 := addf a (extf .f32 b bitsLt_bf16_f32)

/-- Device `c`'s result. -/
def outAt (c : Dev nD) : (cc0_stg3_0 : Ref sig .tc).ty.Contents (Elt F) :=
  k0_pay76 (addPart (addPart (addPart (PART m ρ c 0) (PR m ρ c 0)) (PR m ρ c 1)) (PR m ρ c 2))

/-! ## The schedule -/

/-- The shares of slot 0 of the gathered `x` the three sends read with, and the one the device keeps. -/
def shr : Fin 3 → PosShare TreeShare
  | 0 => fullShare.left
  | 1 => fullShare.right.left
  | 2 => fullShare.right.right.left
abbrev shrKept : PosShare TreeShare := fullShare.right.right.right

/-- A memref owned at any contents. -/
def anyOf (c : Dev nD) {sp : Space} {sh : Shape} {e : EltTy} (b : Memref sig .tc sp sh e) : sProp 𝕄 := iprop(∃ X, ownsTc c b fullShare X)

instance anyOf_storable (c : Dev nD) {sp : Space} {sh : Shape} {e : EltTy} (b : Memref sig .tc sp sh e) :
    BI.Storable (upEmb : UEmb _ 𝕄) (anyOf (F := F) c b) := by unfold anyOf; infer_instance

/-- What a duty of device `c`'s cell `k` hands over. -/
def pay (c : Dev nD) : Option RC → Fin 3 → sProp 𝕄
  | some .bar, i => iprop(anyOf (up c i.rev) (xSlot (i.val + 1) (by omega)) ∗ anyOf (up c i.rev) (prSlot (i.val + 1) (by omega)))
  | some (.agS i), _ => ownsTc c (xSlot 0 (by decide)) (shr i) (xbf m ρ c)
  | some (.agR i), _ => ownsTc c (xSlot (i.val + 1) (by omega)) fullShare (xbf m ρ (up c i))
  | some (.psS i), _ => ownsTc c (psSlot i.val i.isLt) fullShare (PS m ρ c i)
  | some (.prR i), _ => ownsTc c (prSlot (i.val + 1) (by omega)) fullShare (PR m ρ c i)
  | none, _ => iprop(emp)

def dutiesOf : Option RC → Finset (Fin 3)
  | some .bar => Finset.univ
  | some _ => {0}
  | none => ∅

def amountOf : Option RC → ℕ
  | some .bar => 1
  | _ => N

/-- One round for every cell of the protocol. -/
def rd : Rounds.Schedule (GSem nD τ sig) (Fin 3) 𝕄 where
  duties g r := if r = 0 ∧ g.1.2 = .tc then dutiesOf (kind g.2) else ∅
  unitless _ := False
  amount g _ _ := amountOf (kind g.2)
  payload g _ d := pay m ρ g.1.1 (kind g.2) d
  amount_pos g _ _ _ := by
    unfold amountOf; split
    · exact Nat.one_pos
    · exact N_pos

instance rd_payload_storable (g : GSem nD τ sig) (r : ℕ) (d : Fin 3) :
    BI.Storable (upEmb : UEmb _ 𝕄) ((rd (F := F) m ρ).payload g r d) := by
  show BI.Storable upEmb (pay m ρ g.1.1 (kind g.2) d)
  unfold pay
  split <;> infer_instance

section Sched
variable (c : Dev nD) (k : RC)

omit [FloatOps F] in
theorem dutiesOf_ne (h : k ≠ .bar) : dutiesOf (some k) = {0} := by cases k <;> first | exact absurd rfl h | rfl
omit [FloatOps F] in
theorem amountOf_ne (h : k ≠ .bar) : amountOf (some k) = N := by cases k <;> first | exact absurd rfl h | rfl

theorem duties_cell : (rd (F := F) m ρ).duties (cell c k) 0 = dutiesOf (some k) := by
  show (if (0 : ℕ) = 0 ∧ (Dev.tc c : Thread nD τ).2 = .tc then dutiesOf (kind (csem k)) else ∅) = _
  rw [if_pos ⟨rfl, rfl⟩, kind_csem]
theorem duties_later (g : GSem nD τ sig) : ∀ r, 1 ≤ r → (rd (F := F) m ρ).duties g r = ∅ :=
  fun r hr => if_neg fun h => by omega
theorem amount_cell (d : Fin 3) : (rd (F := F) m ρ).amount (cell c k) 0 d = amountOf (some k) := by
  show amountOf (kind (csem k)) = _
  rw [kind_csem]
theorem payload_cell (d : Fin 3) : (rd (F := F) m ρ).payload (cell c k) 0 d = pay m ρ c (some k) d := by
  show pay m ρ c (kind (csem k)) d = _
  rw [kind_csem]
theorem expect_bar : (rd (F := F) m ρ).expect (cell c .bar) 0 = 3 := by
  unfold Schedule.expect Schedule.amountOf
  rw [duties_cell, Finset.sum_congr rfl fun d _ => amount_cell m ρ c .bar d]; rfl
theorem expect_ne (h : k ≠ .bar) : (rd (F := F) m ρ).expect (cell c k) 0 = N := by
  unfold Schedule.expect Schedule.amountOf
  rw [duties_cell, dutiesOf_ne k h, Finset.sum_singleton, amount_cell, amountOf_ne k h]
theorem rest_bar : bigSep ((rd (F := F) m ρ).duties (cell c .bar) 0 \ ∅) (fun d => (rd (F := F) m ρ).payload (cell c .bar) 0 d)
    = iprop(pay m ρ c (some .bar) 0 ∗ pay m ρ c (some .bar) 1 ∗ pay m ρ c (some .bar) 2) := by
  rw [Finset.sdiff_empty, duties_cell, show dutiesOf (some .bar) = Finset.univ from rfl,
    bigSep_univ_eq_bigSepL [0, 1, 2] (by decide) (by decide), bigSepL_cons_cons, bigSepL_cons_cons, bigSepL_singleton,
    payload_cell, payload_cell, payload_cell]
  rfl
theorem rest_ne (h : k ≠ .bar) : bigSep ((rd (F := F) m ρ).duties (cell c k) 0 \ ∅) (fun d => (rd (F := F) m ρ).payload (cell c k) 0 d)
    = pay m ρ c (some k) 0 := by
  rw [Finset.sdiff_empty, duties_cell, dutiesOf_ne k h, bigSep_singleton, payload_cell]

end Sched

/-! ## What each device owes at launch; the levels -/

abbrev owedB (c : Dev nD) (j : Fin 3) : CellTallies nD τ sig Unit := tallyAt (cell (up c j) .bar) () 1
abbrev owedA (c : Dev nD) (j : Fin 3) : CellTallies nD τ sig Unit := tallyAt (cell (up c j) (.agR j.rev)) () N
abbrev owedP (c : Dev nD) (j : Fin 3) : CellTallies nD τ sig Unit := tallyAt (cell (up c j) (.prR j.rev)) () N

/-- The credit of the partial results not yet sent: after `n` of them. -/
def OP3 (c : Dev nD) : CellTallies nD τ sig Unit := 0
def OP2 (c : Dev nD) : CellTallies nD τ sig Unit := OP3 c + owedP c 2
def OP1 (c : Dev nD) : CellTallies nD τ sig Unit := OP2 c + owedP c 1
def OP0 (c : Dev nD) : CellTallies nD τ sig Unit := OP1 c + owedP c 0
/-- That and the credit of the rows not yet sent. -/
def OA2 (c : Dev nD) : CellTallies nD τ sig Unit := OP0 c + owedA c 2
def OA1 (c : Dev nD) : CellTallies nD τ sig Unit := OA2 c + owedA c 1
def OA0 (c : Dev nD) : CellTallies nD τ sig Unit := OA1 c + owedA c 0
/-- That and the barrier units not yet signalled. -/
def OB2 (c : Dev nD) : CellTallies nD τ sig Unit := OA0 c + owedB c 2
def OB1 (c : Dev nD) : CellTallies nD τ sig Unit := OB2 c + owedB c 1
def O₀ (c : Dev nD) : CellTallies nD τ sig Unit := OB1 c + owedB c 0

def L (g : GSem nD τ sig) : Finset Unit := if g.1.2 = .tc then {()} else ∅
def lvOf : Option RC → ℕ
  | some .bar => 1
  | some (.agR _) => 2
  | some (.prR _) => 3
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed to cells of TensorCores above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O : CellTallies nD τ sig Unit} (h : Above n O) {c : Dev nD} {k : RC} {a : ℕ} (hk : n < lvOf (some k)) :
    Above n (O + tallyAt (cell c k) () a) := fun g u hg => by
  rw [Pi.add_apply, Finsupp.add_apply, tallyAt_apply] at hg
  by_cases hc : g = cell c k ∧ u = ()
  · rw [hc.1]; exact ⟨rfl, by show n < lvOf (kind (csem k)); rw [kind_csem]; exact hk⟩
  · rw [if_neg hc, Nat.add_zero] at hg; exact h g u hg

theorem above_OP3 (n : ℕ) (c : Dev nD) : Above n (OP3 c) := Above.zero n
theorem above_OP2 {n : ℕ} (hn : n < 3) (c : Dev nD) : Above n (OP2 c) := (above_OP3 n c).add hn
theorem above_OP1 {n : ℕ} (hn : n < 3) (c : Dev nD) : Above n (OP1 c) := (above_OP2 hn c).add hn
theorem above_OP0 {n : ℕ} (hn : n < 3) (c : Dev nD) : Above n (OP0 c) := (above_OP1 hn c).add hn
theorem above_OA0 {n : ℕ} (hn : n < 2) (c : Dev nD) : Above n (OA0 c) :=
  (((above_OP0 (by omega) c).add hn).add hn).add hn
theorem above_O₀ {n : ℕ} (hn : n < 1) (c : Dev nD) : Above n (O₀ c) :=
  (((above_OA0 (by omega) c).add hn).add hn).add hn

/-- A wait at a level below everything owed is allowed. -/
theorem mayWait (c : Dev nD) (sm : SemLoc sig) (O : CellTallies nD τ sig Unit) (hO : Above (lvOf (kind sm)) O) :
    (levAts L lv : sProp 𝕄) ⊢ MayWait (c : Thread nD τ) sm () O :=
  MayOwe.of_cut (L := L) (lev := lv) (lvOf (kind sm)) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => (hO g u hg).2)

/-- What a device owes, whatever it has waited for. -/
def owed (c : Dev nD) (O : CellTallies nD τ sig Unit) : sProp 𝕄 := iprop(∃ W, owes (c : Thread nD τ) O W)

/-! ## The invariants and marks every device has -/

def records (K : Dev nD × RC → ℕ) : sProp 𝕄 :=
  iprop((bigSep Finset.univ fun ck : Dev nD × RC => cellInv ER (rd m ρ) (K ck) (kcell ck))
    ∗ bigSep Finset.univ fun ck : Dev nD × RC => reached ER (kcell ck) 0)

instance records_persistent (K : Dev nD × RC → ℕ) : BI.Persistent (records m ρ K) := by unfold records; infer_instance

theorem inv_at (K : Dev nD × RC → ℕ) (c : Dev nD) (k : RC) : records m ρ K ⊢ cellInv ER (rd m ρ) (K (c, k)) (cell c k) := by
  unfold records
  iintro ⟨#HI, -⟩
  iapply (show (bigSep Finset.univ fun ck : Dev nD × RC => (cellInv ER (rd m ρ) (K ck) (kcell ck) : sProp 𝕄)) ⊢ cellInv ER (rd m ρ) (K (c, k)) (cell c k)
    from bigSep_elim (Finset.mem_univ (c, k))); iexact HI
theorem reached_at (K : Dev nD × RC → ℕ) (c : Dev nD) (k : RC) : records m ρ K ⊢ reached ER (cell c k) 0 := by
  unfold records
  iintro ⟨-, #HI⟩
  iapply (show (bigSep Finset.univ fun ck : Dev nD × RC => (reached ER (kcell ck) 0 : sProp 𝕄)) ⊢ reached ER (cell c k) 0
    from bigSep_elim (Finset.mem_univ (c, k))); iexact HI

end Cert.Attn
-- ==== Proof.Steps.lean ====
/-
# The rules of the body's steps

For each kind of step, what it needs and what it leaves, stated once for every slot, chunk and device.
-/
module

public import proofs.«01_k».proof.Proof.Proto
public import Idealize.ShloMosaic.Lib.MemrefSat

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

local notation "𝕎[" c "]" => wp frame (wpE (defs₀ (F := F)) 𝒱₀ (Dev.tc c : Thread nD τ) none) Set.univ

/-! ## Loads and stores of a slot -/

section Slot
variable (c : Dev nD) {cs : CoreSpace} {s s' : Shape} {e : EltTy} (M : Memref sig .tc cs s e) (r : Rect s) (hr : ∀ a, r.stride a = 1)
  (hq : r.shape.Squeezes s') (hc : r.shape.ShapeCasts s')

theorem slot_set : ((M.slice r hr).squeeze s' hq).view.set = (M.access r).set := View.set_reshape _ _

theorem wp_loadSlot {hl : M.view.LoadsAt r.toLoadRect} (q : PosShare TreeShare) (X : s'.Idx → Elt F e) (Kt : (r.shape.Idx → Elt F e) → sProp 𝕄) :
    iprop(ownsTc c ((M.slice r hr).squeeze s' hq) q X
        ∗ (∀ v, ⌜shapeCast s' v hc = X⌝ -∗ ownsTc c ((M.slice r hr).squeeze s' hq) q X -∗ Kt v))
      ⊢ 𝕎[c] (Prog.lift (.load M r.toLoadRect hl)) Kt := by
  unfold ownsTc owns Prog.lift
  iintro ⟨⟨%f, %hf, Hx⟩, Hk⟩
  rw [slot_set]
  iapply (wp_load_rect 𝒱₀ (c : Thread nD τ) none Set.univ (m := M) (r := r) (Finset.Subset.refl _)) $$ Hx
  iintro Hx
  rw [wp_ret]; imodintro
  iapply Hk $$ %((M.access r).read (Elt F) f) [] [Hx]
  · ipureintro; exact hf
  · iexists f
    isplitr; · ipureintro; exact hf
    iexact Hx

theorem wp_storeSlot {w : r.shape.Idx → Elt F e} {hx : (M.access r).Stores Finset.univ} {hm : (Finset.univ : Finset r.shape.Idx) = Finset.univ ∨ ∀ a, r.stride a = 1}
    (Kt : PUnit → sProp 𝕄) :
    iprop(anyOf c ((M.slice r hr).squeeze s' hq)
        ∗ (ownsTc c ((M.slice r hr).squeeze s' hq) fullShare (shapeCast s' w hc) -∗ Kt ⟨⟩))
      ⊢ 𝕎[c] (Prog.lift (.store M r w Finset.univ hx hm)) Kt := by
  unfold anyOf ownsTc owns Prog.lift
  iintro ⟨⟨%X, %f, %hf, Hx⟩, Hk⟩
  rw [slot_set]
  iapply (wp_store 𝒱₀ (c : Thread nD τ) none Set.univ (m := M) (r := r) (Mk := Finset.univ) (S := (M.access r).set) (Finset.Subset.refl _)) $$ Hx
  iintro Hx
  rw [wp_ret]; imodintro
  iapply Hk
  iexists (M.access r).write (Elt F) f w Finset.univ
  isplitr
  · ipureintro
    refine (Memref.read_squeeze_slice M r hr hq hc _).trans ?_
    rw [View.readAt_rect]
    exact congrArg (fun x => shapeCast s' x hc) (View.read_write_univ (v := M.access r) f w)
  iexact Hx

end Slot

/-! ## Whole buffers -/

section Whole
variable (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer held whole, at contents `f`. -/
abbrev held (c : Dev nD) (b : Ref sig .tc) (f : b.ty.Contents (Elt F)) : sProp 𝕄 := ((c : Thread nD τ).loc b) ↦{fullShare} f
/-- A buffer held whole, at any contents. -/
abbrev heldAny (c : Dev nD) (b : Ref sig .tc) : sProp 𝕄 := iprop(∃ f : Buf (Elt F) ((c : Thread nD τ).loc b), ((c : Thread nD τ).loc b) ↦{fullShare} f)

end Whole

/-! ## Local copies of keys and values -/

/-- A copy in flight on a semaphore of the device, to leave a slot holding `X`. -/
def flight (c : Dev nD) (q : DmaSem sig) {sh : Shape} {e : EltTy} (dst : Memref sig .tc .vmem sh e) (X : sh.Idx → Elt F e) : sProp 𝕄 :=
  Flight EC (c : Thread nD τ) (.dma q) () dst.view.dmaCredit (ownsTc c dst fullShare X)

/-- A share of a buffer's contents, to copy from. -/
def readable (c : Dev nD) (b : Ref sig .tc) (f : b.ty.Contents (Elt F)) : sProp 𝕄 := iprop(∃ q, ((c : Thread nD τ).loc b) ↦{q} f)

theorem readable_split (c : Dev nD) (b : Ref sig .tc) (f : b.ty.Contents (Elt F)) :
    (readable c b f : sProp 𝕄) ⊢ iprop(readable c b f ∗ readable c b f) := by
  unfold readable
  iintro ⟨%q, H⟩
  ihave H2 := (pointsTo_share (PosShare.mem_left_op_right q)).1 $$ H
  icases H2 with ⟨Hl, Hr⟩
  isplitl [Hl]
  · iexists q.left; iexact Hl
  · iexists q.right; iexact Hr

theorem wp_startCopy (c : Dev nD) {sp : Space} {sh : Shape} {e : EltTy} (src : Memref sig .tc sp sh e) (dst : Memref sig .tc .vmem sh e) (q : DmaSem sig)
    (hp : 0 < dst.view.dmaCredit) {h1 : src.view.WordExact} {h2 : dst.view.WordExact} {h3} (f : Buf (Elt F) (src.view.loc (c : Thread nD τ)))
    (Kt : PUnit → sProp 𝕄) :
    iprop((∃ q', src.view.loc (c : Thread nD τ) ↦{q'} f) ∗ anyOf c dst ∗ semVal ((c : Thread nD τ), .dma q) 0
        ∗ ((∃ q', src.view.loc (c : Thread nD τ) ↦{q'} f) -∗ flight c q dst (src.view.read (Elt F) f) -∗ Kt ⟨⟩))
      ⊢ 𝕎[c] (Prog.lift (.enqueueDma src (.here dst) (.dma q) h1 h2 h3)) Kt := by
  unfold anyOf ownsTc owns Prog.lift
  iintro ⟨⟨%q', Hs⟩, ⟨%X, %fd, %hfd, Hd⟩, Hv, Hk⟩
  ihave H2 := (pointsTo_share (PosShare.mem_left_op_right q')).1 $$ Hs
  icases H2 with ⟨Hl, Hr⟩
  ihave Hl := (pointsTo_split_subset (Finset.subset_univ src.view.set)).1 $$ Hl
  icases Hl with ⟨Hl, -⟩
  iapply (Transfers.wp_dmaLocal EC 𝒱₀ (c : Thread nD τ) none () dst.view.dmaCredit rfl hp (Finset.Subset.refl _)) $$ [Hl Hd Hv]
  · isplitl [Hl]; · iexact Hl
    isplitl [Hd]; · iexact Hd
    iexact Hv
  iintro Hf
  rw [wp_ret]; imodintro
  iapply Hk $$ [Hr] [Hf]
  · iexists q'.right; iexact Hr
  unfold flight
  have hD : iprop((dst.view.loc (c : Thread nD τ) ↦[dst.view.set]{fullShare} (dst.view.write (Elt F) fd (ReadAs.same.apply (src.view.read (Elt F) f)) Finset.univ))
      ∗ (src.view.loc (c : Thread nD τ) ↦[src.view.set]{q'.left} f)) ⊢ (ownsTc c dst fullShare (src.view.read (Elt F) f) : sProp 𝕄) := by
    unfold ownsTc owns
    iintro ⟨Hd, -⟩
    iexists (dst.view.write (Elt F) fd (ReadAs.same.apply (src.view.read (Elt F) f)) Finset.univ)
    isplitr
    · ipureintro; exact View.read_write_univ _ _
    iexact Hd
  iapply (Flight_mono EC (c : Thread nD τ) hD) $$ Hf

theorem wp_waitCopy (c : Dev nD) {sp : Space} {sh : Shape} {e : EltTy} (src : Memref sig .tc sp sh e) (dst : Memref sig .tc .vmem sh e) (q : DmaSem sig)
    {h1 : src.view.WordExact} {h2 : dst.view.WordExact} (hq : lvOf (kind (.dma q)) = 0) (X : sh.Idx → Elt F e) (O : CellTallies nD τ sig Unit) (hO : Above 0 O)
    (Kt : PUnit → sProp 𝕄) :
    iprop(levAts L lv ∗ flight c q dst X ∗ owed c O
        ∗ (ownsTc c dst fullShare X -∗ semVal ((c : Thread nD τ), .dma q) 0 -∗ owed c O -∗ Kt ⟨⟩))
      ⊢ 𝕎[c] (Prog.lift (.waitDma2 q src dst h1 h2)) Kt := by
  unfold Prog.lift owed flight
  iintro ⟨#Hlev, Hf, ⟨%W, HO⟩, Hk⟩
  iapply (Transfers.wp_waitLocalO EC 𝒱₀ (c : Thread nD τ) none () rfl (O := O) (W := W)) $$ [Hf HO]
  · isplitl [Hf]; · iexact Hf
    isplitl [HO]; · iexact HO
    iapply (mayWait c (.dma q) O (by rw [hq]; exact hO)); iexact Hlev
  iintro ⟨Hd, Hv, HO⟩
  rw [wp_ret]; imodintro
  iapply Hk $$ [Hd] [Hv]
  · iexact Hd
  · iexact Hv
  iexists _; iexact HO

/-! ## The protocol's waits and sends -/

variable (K : Dev nD × RC → ℕ)

/-- What a device needs to wait for a cell of its own: its place at the cell's first round, and the credit. -/
def ticket (c : Dev nD) (k : RC) (n : ℕ) : sProp 𝕄 := iprop(atPos ER (cell c k) 0 ∅ 0 ∗ cred (tallyAt (cell c k) () n))

/-- A wait for a send or receive cell: what it hands over, and its counter at zero for good. -/
theorem wp_waitCell (c : Dev nD) (k : RC) (hk : k ≠ .bar) (q : DmaSem sig) (hq : csem k = .dma q)
    {sp sp' : Space} {sh sh' : Shape} {e e' : EltTy} (src : Memref sig .tc sp sh e) (dst : Memref sig .tc sp' sh' e')
    {h1 : src.view.WordExact} {h2 : dst.view.WordExact} (hN : dst.view.dmaCredit = N)
    (O : CellTallies nD τ sig Unit) (hO : Above (lvOf (some k)) O) (Kt : PUnit → sProp 𝕄) :
    iprop(levAts L lv ∗ records m ρ K ∗ ticket c k N ∗ owed c O
        ∗ (pay m ρ c (some k) 0 -∗ semVal (cell c k) 0 -∗ owed c O -∗ Kt ⟨⟩))
      ⊢ 𝕎[c] (Prog.lift (.waitDma2 q src dst h1 h2)) Kt := by
  unfold Prog.lift owed ticket
  iintro ⟨#Hlev, #HR, ⟨Hat, Hc⟩, ⟨%W, HO⟩, Hk⟩
  iapply (Rounds.wp_wait_rest_token 𝒱₀ ER (rd m ρ) (c : Thread nD τ) none (sm := csem k) (k' := N) (κ := K (c, k))
      (by rw [hq, ← hN]; exact wpE_waitDma2_eq 𝒱₀ (c : Thread nD τ) none Set.univ) (Set.mem_univ _) () (O := O) (W := W) (R := 0) (m := 0) (T := ∅)
      (by rw [Nat.zero_add]; exact (expect_ne m ρ c k hk).symm)) $$ [Hc HO Hat]
  · isplitr; · iapply (inv_at m ρ K c k); iexact HR
    isplitl [Hc]; · iexact Hc
    isplitl [HO]; · iexact HO
    isplitr; · iapply (mayWait c (csem k) O (by rw [kind_csem]; exact hO)); iexact Hlev
    iexact Hat
  iintro ⟨HO, Hat, -, Hpay⟩
  ihave Hp := (Entails.of_eq (rest_ne m ρ c k hk)) $$ Hpay
  imod (Rounds.cell_close ER (rd m ρ) (Set.mem_univ (K (c, k))) (fun h => h) (R := 0 + 1) (duties_later m ρ (cell c k))) $$ [Hat] with Hz
  · isplitr; · iapply (inv_at m ρ K c k); iexact HR
    iexact Hat
  rw [wp_ret]; imodintro
  iapply Hk $$ [Hp] [Hz]
  · iexact Hp
  · iexact Hz
  iexists _; iexact HO

/-- A signal to a peer's barrier: the peer may write into the slots handed over. -/
theorem wp_signalPeer (c : Dev nD) (j : Fin 3) (e : Dev nD) (he : e = up c j) (O : CellTallies nD τ sig Unit) (Kt : PUnit → sProp 𝕄) :
    iprop(records m ρ K ∗ owed c (O + owedB c j) ∗ dutyTok ER (cell (up c j) .bar) 0 j
        ∗ anyOf c (xSlot (j.val + 1) (by omega)) ∗ anyOf c (prSlot (j.val + 1) (by omega))
        ∗ (owed c O -∗ Kt ⟨⟩))
      ⊢ 𝕎[c] (semSignalWord e barSem 1#32) Kt := by
  subst he
  unfold semSignalWord owed
  iintro ⟨#HR, ⟨%W, HO⟩, Ht, Hx, Hp, Hk⟩
  simp only [Prog.lift]
  iapply (Rounds.wp_signal 𝒱₀ ER (rd m ρ) (c : Thread nD τ) none (dst := (up c j : Thread nD τ)) (κ := K (up c j, .bar))
      (d := j) (by show j ∈ (rd m ρ).duties (cell (up c j) .bar) 0; rw [duties_cell]; exact Finset.mem_univ _) ((amount_cell m ρ (up c j) .bar j).trans (by decide)) () O rfl)
    $$ [HO Ht Hx Hp]
  · isplitr; · iapply (inv_at m ρ K (up c j) .bar); iexact HR
    isplitl [HO]; · iexact HO
    isplitl [Ht]; · iexact Ht
    isplitl [Hx Hp]
    · iapply (Entails.of_eq (payload_cell m ρ (up c j) .bar j).symm)
      rw [show pay m ρ (up c j) (some .bar) j = iprop(anyOf c (xSlot (j.val + 1) (by omega)) ∗ anyOf c (prSlot (j.val + 1) (by omega))) from by
        show iprop(anyOf (up (up c j) j.rev) _ ∗ anyOf (up (up c j) j.rev) _) = _
        rw [up_rev]]
      isplitl [Hx] <;> iassumption
    iapply (reached_at m ρ K (up c j) .bar); iexact HR
  iintro HO
  rw [wp_ret]; imodintro
  iapply Hk
  iexists W; iexact HO

/-- The wait for the three peers' signals. -/
theorem wp_waitPeers (c : Dev nD) (O : CellTallies nD τ sig Unit) (hO : Above 1 O) (Kt : PUnit → sProp 𝕄) :
    iprop(levAts L lv ∗ records m ρ K ∗ ticket c .bar 3 ∗ owed c O
        ∗ (iprop(pay m ρ c (some .bar) 0 ∗ pay m ρ c (some .bar) 1 ∗ pay m ρ c (some .bar) 2) -∗ semVal (cell c .bar) 0 -∗ owed c O -∗ Kt ⟨⟩))
      ⊢ 𝕎[c] (semWaitWord barSem 3#32) Kt := by
  unfold semWaitWord owed ticket
  iintro ⟨#Hlev, #HR, ⟨Hat, Hc⟩, ⟨%W, HO⟩, Hk⟩
  simp only [Prog.lift]
  iapply (Rounds.wp_wait_rest_token 𝒱₀ ER (rd m ρ) (c : Thread nD τ) none (κ := K (c, .bar))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at m ρ K c .bar); iexact HR
    isplitl [Hc]; · iexact Hc
    isplitl [HO]; · iexact HO
    isplitr; · iapply (mayWait c (csem .bar) O (by rw [kind_csem]; exact hO)); iexact Hlev
    iexact Hat
  iintro ⟨HO, Hat, -, Hpay⟩
  ihave Hp := (Entails.of_eq (rest_bar m ρ c)) $$ Hpay
  imod (Rounds.cell_close ER (rd m ρ) (Set.mem_univ (K (c, .bar))) (fun h => h) (R := 0 + 1) (duties_later m ρ (cell c .bar))) $$ [Hat] with Hz
  · isplitr; · iapply (inv_at m ρ K c .bar); iexact HR
    iexact Hat
  rw [wp_ret]; imodintro
  iapply Hk $$ [Hp] [Hz]
  · iexact Hp
  · iexact Hz
  iexists _; iexact HO

/-- A block of rows sent to a slot of a peer: the slot goes there with the rows, the source comes back with the send
    cell. -/
theorem wp_sendSlot (c : Dev nD) (j : Fin 3) (e : Dev nD) (he : e = up c j) (kS kR : RC) (hS : kS ≠ .bar) (hR : kR ≠ .bar)
    (qS qR : DmaSem sig) (hqS : csem kS = .dma qS) (hqR : csem kR = .dma qR)
    (src dst : Memref sig .tc .vmem S256x1024 .bf16) {h1 : src.view.WordExact} {h2 : dst.view.WordExact} {hsc : dst.view.ref.isScScratch = false}
    {h3 : DmaTarget.Typed .vmem (.dma qR) (.remote (Dev.tc e : Thread nD τ) dst (.dma qS) hsc)}
    (hN : dst.view.dmaCredit = N) (q : PosShare TreeShare) (X : FVec F S256x1024 .bf16)
    (hpS : pay m ρ c (some kS) 0 = ownsTc c src q X) (hpR : pay m ρ (up c j) (some kR) 0 = ownsTc (up c j) dst fullShare X)
    (O : CellTallies nD τ sig Unit) (Kt : PUnit → sProp 𝕄) :
    iprop(records m ρ K ∗ owed c (O + tallyAt (cell (up c j) kR) () N) ∗ ownsTc c src q X ∗ anyOf (up c j) dst
        ∗ dutyTok ER (cell c kS) 0 0 ∗ dutyTok ER (cell (up c j) kR) 0 0
        ∗ (cred (tallyAt (cell c kS) () N) -∗ owed c O -∗ Kt ⟨⟩))
      ⊢ 𝕎[c] (Prog.lift (.enqueueDma src (.remote (Dev.tc e : Thread nD τ) dst (.dma qS) hsc) (.dma qR) h1 h2 h3)) Kt := by
  subst he
  unfold Prog.lift owed
  iintro ⟨#HR, ⟨%W, HO⟩, Hs, Hd, HtS, HtR, Hk⟩
  unfold anyOf ownsTc owns
  icases Hs with ⟨%fs, %hfs, Hs⟩
  icases Hd with ⟨%X', %fd, -, Hd⟩
  have iS := (inv_at m ρ K c kS); have iR := inv_at m ρ K (up c j) kR
  have rS := (reached_at m ρ K c kS); have rR := reached_at m ρ K (up c j) kR
  have dS := duties_cell m ρ c kS; have dR := duties_cell m ρ (up c j) kR
  have aS := amount_cell m ρ c kS 0; have aR := amount_cell m ρ (up c j) kR 0
  have pS := payload_cell m ρ c kS 0; have pR := payload_cell m ρ (up c j) kR 0
  rw [dutiesOf_ne kS hS] at dS; rw [dutiesOf_ne kR hR] at dR
  rw [amountOf_ne kS hS] at aS; rw [amountOf_ne kR hR] at aR
  rw [hpS] at pS; rw [hpR] at pR
  simp only [cell, hqS, hqR] at iS iR rS rR dS dR aS aR pS pR ⊢
  iapply (Rounds.wp_send_pointsTo 𝒱₀ ER (rd m ρ) (c : Thread nD τ) none (κ₁ := K (c, kS)) (κ₂ := K (up c j, kR))
    (r₁ := 0) (r₂ := 0) (d₁ := 0) (d₂ := 0) (fd := fd)
    (by rw [dS]; exact Finset.mem_singleton_self _) (by rw [dR]; exact Finset.mem_singleton_self _)
    () () N (by exact hN) aS aR O rfl (W := W)
    (by rw [pS, ← hfs]; exact owns_intro (c : Thread nD τ) src q fs)
    (by rw [pR, ← hfs]
        refine (owns_intro (up c j : Thread nD τ) dst fullShare _).trans (Entails.of_eq ?_)
        rw [View.read_write_univ])) $$ [HO Hs Hd HtS HtR]
  · isplitr; · iapply iS; iexact HR
    isplitr; · iapply iR; iexact HR
    isplitl [Hs]; · iexact Hs
    isplitl [Hd]; · iexact Hd
    isplitl [HO]; · iexact HO
    isplitl [HtS]; · iexact HtS
    isplitr; · iapply rS; iexact HR
    isplitl [HtR]; · iexact HtR
    iapply rR; iexact HR
  iintro ⟨Hc, HO⟩
  rw [wp_ret]; imodintro
  iapply Hk $$ [Hc]
  · iexact Hc
  iexists W; iexact HO

end Cert.Attn
-- ==== Proof.Heads.lean ====
/-
# Heads and chunks

The rules of whole-buffer accesses, of one head and of one chunk.
-/
module

public import proofs.«01_k».proof.Proof.Steps
public import Idealize.ShloMosaic.Lib.VecWindow

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

local notation "𝕎[" c "]" => wp frame (wpE (defs₀ (F := F)) 𝒱₀ (Dev.tc c : Thread nD τ) none) Set.univ

/-! ## Whole buffers -/

section Full
variable (c : Dev nD) {cs : CoreSpace} {s : Shape} {e : EltTy} (M : Memref sig .tc cs s e) {off : Fin s.rank → ℕ}
  (inb : ∀ a, off a + s.size a ≤ s.size a)

theorem full_setOn : M.view.setOn (Rect.unit off s.size inb).toLoadRect.set ⊆ M.view.set := Finset.map_subset_map.mpr (Finset.subset_univ _)

theorem wp_loadFull {hl : M.view.LoadsAt (Rect.unit off s.size inb).toLoadRect} (q : PosShare TreeShare) (X : s.Idx → Elt F e) (Kt : (s.Idx → Elt F e) → sProp 𝕄) :
    iprop(ownsTc c M q X ∗ (ownsTc c M q X -∗ Kt X))
      ⊢ 𝕎[c] (Prog.lift (.load M (Rect.unit off s.size inb).toLoadRect hl)) Kt := by
  unfold ownsTc owns Prog.lift
  iintro ⟨⟨%f, %hf, Hx⟩, Hk⟩
  iapply (wp_load 𝒱₀ (c : Thread nD τ) none Set.univ (m := M) (full_setOn M inb)) $$ Hx
  iintro Hx
  rw [wp_ret]; imodintro
  rw [View.readAt_full M.view f inb, hf]
  iapply Hk
  iexists f
  isplitr; · ipureintro; exact hf
  iexact Hx

theorem read_write_full (f : M.view.ty.Contents (Elt F)) (w : s.Idx → Elt F e) :
    M.view.read (Elt F) ((M.access (Rect.unit off s.size inb)).write (Elt F) f w Finset.univ) = w :=
  (View.readAt_full M.view _ inb).symm.trans (View.read_write_univ (v := M.access (Rect.unit off s.size inb)) f w)

theorem wp_storeFull {w : s.Idx → Elt F e} {hx : (M.access (Rect.unit off s.size inb)).Stores Finset.univ} {hm : (Finset.univ : Finset (Rect.unit off s.size inb).shape.Idx) = Finset.univ ∨ ∀ a, (Rect.unit off s.size inb).stride a = 1}
    (Kt : PUnit → sProp 𝕄) :
    iprop(anyOf c M ∗ (ownsTc c M fullShare w -∗ Kt ⟨⟩))
      ⊢ 𝕎[c] (Prog.lift (.store M (Rect.unit off s.size inb) w Finset.univ hx hm)) Kt := by
  unfold anyOf ownsTc owns Prog.lift
  iintro ⟨⟨%X, %f, %hf, Hx⟩, Hk⟩
  iapply (wp_store 𝒱₀ (c : Thread nD τ) none Set.univ (m := M) (r := Rect.unit off s.size inb) (Mk := Finset.univ) (S := M.view.set)
    (View.set_slice_subset _ _)) $$ Hx
  iintro Hx
  rw [wp_ret]; imodintro
  iapply Hk
  iexists (M.access (Rect.unit off s.size inb)).write (Elt F) f w Finset.univ
  isplitr; · ipureintro; exact read_write_full M inb f w
  iexact Hx

end Full

/-! ## One head -/

section Head
variable (c : Dev nD)

/-- Where half `k` of a slot lies in the buffer, by the slot's own indices. -/
theorem half_emb (s : ℕ) (k : Fin 2) (hs : s < 3) (j : S1x4096x128.Idx) :
    (Rect.unit (s := S3x4096x256) ![s, 0, 128 * k.val] S1x4096x128.size (inbKVh s k.val hs k.isLt)).emb j
      = (Rect.unit (s := S3x4096x256) ![s, 0, 0] S1x4096x256.size (inbKV s hs)).emb
          (Shape.reshapeEquiv squeezes_S1x4096x256_S4096x256.numel_eq
            (ix2 (j 1 : Fin 4096) (⟨128 * k.val + (j 2 : Fin 128).val, by have h : (j 2).val < 128 := (j 2).isLt; omega⟩ : Fin 256))) := by
  rw [show Shape.reshapeEquiv squeezes_S1x4096x256_S4096x256.numel_eq (ix2 (j 1 : Fin 4096) (⟨128 * k.val + (j 2 : Fin 128).val, by have h : (j 2).val < 128 := (j 2).isLt; omega⟩ : Fin 256)) = _
    from reshapeEquiv_ix2_1ab _ _ _]
  have h0 : (j 0).val < 1 := (j 0).isLt
  funext a
  apply Fin.ext
  rw [Rect.emb_apply, Rect.emb_apply]
  fin_cases a
  · show s + 1 * (j 0).val = s + 1 * 0; omega
  · rfl
  · show 128 * k.val + 1 * (j 2).val = 0 + 1 * (128 * k.val + (j 2).val); omega

theorem half_subset (s : ℕ) (k : Fin 2) (hs : s < 3) :
    (Rect.unit (s := S3x4096x256) ![s, 0, 128 * k.val] S1x4096x128.size (inbKVh s k.val hs k.isLt)).set
      ⊆ (Rect.unit (s := S3x4096x256) ![s, 0, 0] S1x4096x256.size (inbKV s hs)).set := by
  intro i hi
  rw [← Rect.map_emb_univ] at hi ⊢
  obtain ⟨j, -, rfl⟩ := Finset.mem_map.mp hi
  rw [half_emb s k hs]
  exact Finset.mem_map_of_mem _ (Finset.mem_univ _)

theorem wp_loadHalf (b : Memref sig .tc .vmem S3x4096x256 .f32) (s : ℕ) (k : Fin 2) (hs : s < 3) (X : Vec F S4096x256 .f32) (Kt : Vec F S1x4096x128 .f32 → sProp 𝕄) :
    iprop(ownsTc c (kvSlot b s hs) fullShare X ∗ (ownsTc c (kvSlot b s hs) fullShare X -∗ Kt (half k X)))
      ⊢ 𝕎[c] (loadHalf b s k.val hs k.isLt) Kt := by
  unfold loadHalf ownsTc owns Prog.lift
  iintro ⟨⟨%f, %hf, Hx⟩, Hk⟩
  have hS : b.view.setOn (Rect.unit (s := S3x4096x256) ![s, 0, 128 * k.val] S1x4096x128.size (inbKVh s k.val hs k.isLt)).toLoadRect.set
      ⊆ (kvSlot b s hs).view.set := by
    rw [slot_set, View.set_slice]
    exact Finset.map_subset_map.mpr (half_subset s k hs)
  iapply (wp_load 𝒱₀ (c : Thread nD τ) none Set.univ (m := b) hS) $$ Hx
  iintro Hx
  rw [wp_ret]; imodintro
  have hv : b.view.readAt (Elt F) (Rect.unit (s := S3x4096x256) ![s, 0, 128 * k.val] S1x4096x128.size (inbKVh s k.val hs k.isLt)).toLoadRect f = half k X := by
    subst hf
    funext j
    exact congrArg (b.view.read (Elt F) f) (half_emb s k hs j)
  rw [hv]
  iapply Hk
  iexists f
  isplitr; · ipureintro; exact hf
  iexact Hx

/-- The output buffer with its first `n` blocks of 128 columns as in `T`. -/
def obufI (n : ℕ) (T : FVec F S256x1024 .bf16) : sProp 𝕄 :=
  iprop(∃ X : FVec F S256x1024 .bf16, ⌜∀ i, (i 1).val < 128 * n → X i = T i⌝ ∗ ownsTc c obufM fullShare X)

theorem obufI_zero (T : FVec F S256x1024 .bf16) : (anyOf c obufM : sProp 𝕄) ⊢ obufI c 0 T := by
  unfold anyOf obufI
  iintro ⟨%X, H⟩
  iexists X
  isplitr
  · ipureintro; intro i h; exact absurd h (Nat.not_lt_zero _)
  iexact H

theorem obufI_full (T : FVec F S256x1024 .bf16) : (obufI c 8 T : sProp 𝕄) ⊢ ownsTc c obufM fullShare T := by
  unfold obufI
  iintro ⟨%X, %h, H⟩
  have e : X = T := funext fun i => h i (by have : (i 1).val < 1024 := (i 1).isLt; omega)
  subst e
  iexact H

theorem wp_head (s : ℕ) (k : Fin 2) (n : ℕ) (hs : s < 3) (hn : n < 8) (q : FVec F S256x1024 .bf16) (X Y : Vec F S4096x256 .f32) (T : FVec F S256x1024 .bf16)
    (hT : ∀ (a : Fin 256) (b : Fin 128), T (ix2 a (⟨128 * n + b.val, by omega⟩ : Fin 1024)) = headOut n hn q (half k X) (half k Y) (ix2 a b)) (Kt : PUnit → sProp 𝕄) :
    iprop(ownsTc c (kvSlot kbufM s hs) fullShare X ∗ ownsTc c (kvSlot vbufM s hs) fullShare Y ∗ obufI c n T
        ∗ (ownsTc c (kvSlot kbufM s hs) fullShare X -∗ ownsTc c (kvSlot vbufM s hs) fullShare Y -∗ obufI c (n + 1) T -∗ Kt ⟨⟩))
      ⊢ 𝕎[c] (head s k.val n hs k.isLt hn q) Kt := by
  unfold head
  simp only [wp_bind]
  iintro ⟨HK, HV, HO, Hk⟩
  iapply (wp_loadHalf c kbufM s k hs X)
  isplitl [HK]; · iexact HK
  iintro HK
  iapply (wp_loadHalf c vbufM s k hs Y)
  isplitl [HV]; · iexact HV
  iintro HV
  unfold obufI ownsTc owns
  icases HO with ⟨%O, %hO, %f, %hf, Hf⟩
  unfold Prog.lift
  iapply (wp_load 𝒱₀ (c : Thread nD τ) none Set.univ (m := obufM) (S := obufM.view.set) (Finset.map_subset_map.mpr (Finset.subset_univ _))) $$ Hf
  iintro Hf
  rw [wp_ret]; imodintro
  iapply (wp_store 𝒱₀ (c : Thread nD τ) none Set.univ (m := obufM) (r := Rect.unit (s := S256x1024) ![0, 128 * n] S256x128.size (inbO n hn))
    (Mk := Finset.univ) (S := obufM.view.set) (View.set_slice_subset _ _)) $$ Hf
  iintro Hf
  rw [wp_ret]; imodintro
  iapply Hk $$ HK HV
  iexists obufM.view.read (Elt F) ((obufM.access (Rect.unit (s := S256x1024) ![0, 128 * n] S256x128.size (inbO n hn))).write (Elt F) f
    (headOut n hn q (half k X) (half k Y)) Finset.univ)
  isplitr
  · ipureintro
    intro i hi
    by_cases h : (i 1).val < 128 * n
    · rw [← hO i h, ← hf]
      refine View.read_slice_write_of_not_mem _ _ _ _ fun hm => ?_
      obtain ⟨y, -, hy⟩ := Finset.mem_map.mp hm
      have e1 : (i 1).val = 128 * n + 1 * (y 1).val := by rw [← hy]; rfl
      omega
    · have hb : (i 1).val - 128 * n < 128 := by omega
      have hw := View.read_slice_write_emb (v := obufM.view) (Rect.unit (s := S256x1024) ![0, 128 * n] S256x128.size (inbO n hn)) f
        (headOut n hn q (half k X) (half k Y)) (Finset.mem_univ (ix2 (i 0 : Fin 256) (⟨(i 1).val - 128 * n, hb⟩ : Fin 128)))
      have e : (Rect.unit (s := S256x1024) ![0, 128 * n] S256x128.size (inbO n hn)).emb (ix2 (i 0 : Fin 256) (⟨(i 1).val - 128 * n, hb⟩ : Fin 128)) = i := by
        funext a
        apply Fin.ext
        rw [Rect.emb_apply]
        fin_cases a
        · show 0 + 1 * (i 0).val = (i 0).val; omega
        · show 128 * n + 1 * ((i 1).val - 128 * n) = (i 1).val; omega
      have e' : i = ix2 (i 0 : Fin 256) (⟨128 * n + ((i 1).val - 128 * n), by omega⟩ : Fin 1024) := by
        funext a
        apply Fin.ext
        fin_cases a
        · rfl
        · show (i 1).val = 128 * n + ((i 1).val - 128 * n); omega
      exact (congrArg (View.read (Elt F) obufM.view _) e.symm).trans ((hw.trans (hT (i 0) ⟨(i 1).val - 128 * n, hb⟩).symm).trans (congrArg T e'.symm))
  iexists _
  isplitr; · ipureintro; rfl
  iexact Hf

end Head

/-! ## Chunks -/

section Chunk
variable (c : Dev nD)

/-- Head `2 g + k` of stage `d` lies in its own columns of the eight. -/
theorem OB_block (d g : Fin 4) (k : Fin 2) (a : Fin 256) (b : Fin 128) :
    OB m ρ c d (ix2 a (⟨128 * (2 * g.val + k.val) + b.val, by omega⟩ : Fin 1024)) = headO m ρ c d g k (ix2 a b) := by
  have h1 : (⟨(128 * (2 * g.val + k.val) + b.val) / 256, by omega⟩ : Fin 4) = g := Fin.ext (by show _ / 256 = g.val; omega)
  have h2 : (⟨(128 * (2 * g.val + k.val) + b.val) / 128 % 2, by omega⟩ : Fin 2) = k := Fin.ext (by show _ / 128 % 2 = k.val; omega)
  have h3 : (⟨(128 * (2 * g.val + k.val) + b.val) % 128, by omega⟩ : Fin 128) = b := Fin.ext (by show _ % 128 = b.val; omega)
  show headO m ρ c d ⟨(128 * (2 * g.val + k.val) + b.val) / 256, _⟩ ⟨(128 * (2 * g.val + k.val) + b.val) / 128 % 2, _⟩
    (ix2 a ⟨(128 * (2 * g.val + k.val) + b.val) % 128, _⟩) = _
  rw [h1, h2, h3]

/-- Slot `s` with chunk `(d, g)` of the keys and of the values in flight; free; and the arrays the chunks are cut from. -/
def flying (s : ℕ) (hs : s < 3) (d g : Fin 4) : sProp 𝕄 :=
  iprop(flight c (kvSem s 0 hs Nat.zero_lt_two) (kvSlot kbufM s hs) (chunkK m c d g) ∗ flight c (kvSem s 1 hs Nat.one_lt_two) (kvSlot vbufM s hs) (chunkV m c d g))
def idle (s : ℕ) (hs : s < 3) : sProp 𝕄 :=
  iprop(anyOf c (kvSlot kbufM s hs) ∗ anyOf c (kvSlot vbufM s hs)
    ∗ semVal ((c : Thread nD τ), .dma (kvSem s 0 hs Nat.zero_lt_two)) 0 ∗ semVal ((c : Thread nD τ), .dma (kvSem s 1 hs Nat.one_lt_two)) 0)
def arrays : sProp 𝕄 := iprop(readable c main_arg3 (karr m c) ∗ readable c main_arg4 (varr m c))

theorem kvLevel (s j : ℕ) (hs : s < 3) (hj : j < 2) : lvOf (kind (.dma (kvSem s j hs hj))) = 0 :=
  (by decide : ∀ (s : Fin 3) (j : Fin 2), lvOf (kind (.dma (kvSem s.val j.val s.isLt j.isLt))) = 0) ⟨s, hs⟩ ⟨j, hj⟩

theorem kvCredit (b : Memref sig .tc .vmem S3x4096x256 .f32) (s : ℕ) (hs : s < 3) : 0 < (kvSlot b s hs).view.dmaCredit := View.dmaCredit_pos _ (by decide)

theorem wp_start (s : ℕ) (hs : s < 3) (d g : Fin 4) (Kt : PUnit → sProp 𝕄) :
    iprop(idle c s hs ∗ arrays m c ∗ (flying m c s hs d g -∗ arrays m c -∗ Kt ⟨⟩))
      ⊢ 𝕎[c] (startK c s hs d g) (fun _ => 𝕎[c] (startV c s hs d g) Kt) := by
  unfold startK startV idle arrays flying readable
  iintro ⟨⟨Hk, Hv, Hsk, Hsv⟩, ⟨HK, HV⟩, Hc⟩
  iapply (wp_startCopy c (kvSrc kM (Memref.isWhole_whole _) c d g) (kvSlot kbufM s hs) (kvSem s 0 hs Nat.zero_lt_two) (kvCredit _ s hs) (karr m c))
  isplitl [HK]; · iexact HK
  isplitl [Hk]; · iexact Hk
  isplitl [Hsk]; · iexact Hsk
  iintro HK Hfk
  iapply (wp_startCopy c (kvSrc vM (Memref.isWhole_whole _) c d g) (kvSlot vbufM s hs) (kvSem s 1 hs Nat.one_lt_two) (kvCredit _ s hs) (varr m c))
  isplitl [HV]; · iexact HV
  isplitl [Hv]; · iexact Hv
  isplitl [Hsv]; · iexact Hsv
  iintro HV Hfv
  iapply Hc $$ [Hfk Hfv] [HK HV]
  · isplitl [Hfk]; · iexact Hfk
    iexact Hfv
  · isplitl [HK]; · iexact HK
    iexact HV

theorem wp_chunk (s : ℕ) (hs : s < 3) (d g : Fin 4) (O : CellTallies nD τ sig Unit) (hO : Above 0 O) (Kt : PUnit → sProp 𝕄) :
    iprop(levAts L lv ∗ flying m c s hs d g ∗ obufI c (2 * g.val) (OB m ρ c d) ∗ owed c O
        ∗ (idle c s hs -∗ obufI c (2 * g.val + 2) (OB m ρ c d) -∗ owed c O -∗ Kt ⟨⟩))
      ⊢ 𝕎[c] (chunk c s hs d g (Qv m ρ c d)) Kt := by
  unfold chunk flying idle
  simp only [wp_bind]
  iintro ⟨#Hlev, ⟨HfK, HfV⟩, HB, HO, Hk⟩
  unfold waitK waitV
  iapply (wp_waitCopy c _ (kvSlot kbufM s hs) (kvSem s 0 hs Nat.zero_lt_two) (kvLevel s 0 hs Nat.zero_lt_two) (chunkK m c d g) O hO)
  isplitr; · iexact Hlev
  isplitl [HfK]; · iexact HfK
  isplitl [HO]; · iexact HO
  iintro HK HsK HO
  iapply (wp_waitCopy c _ (kvSlot vbufM s hs) (kvSem s 1 hs Nat.one_lt_two) (kvLevel s 1 hs Nat.one_lt_two) (chunkV m c d g) O hO)
  isplitr; · iexact Hlev
  isplitl [HfV]; · iexact HfV
  isplitl [HO]; · iexact HO
  iintro HV HsV HO
  iapply (wp_head c s 0 (2 * g.val) hs (by omega) (Qv m ρ c d) (chunkK m c d g) (chunkV m c d g) (OB m ρ c d) (fun a b => OB_block m ρ c d g 0 a b))
  isplitl [HK]; · iexact HK
  isplitl [HV]; · iexact HV
  isplitl [HB]; · iexact HB
  iintro HK HV HB
  iapply (wp_head c s 1 (2 * g.val + 1) hs (by omega) (Qv m ρ c d) (chunkK m c d g) (chunkV m c d g) (OB m ρ c d) (fun a b => OB_block m ρ c d g 1 a b))
  isplitl [HK]; · iexact HK
  isplitl [HV]; · iexact HV
  isplitl [HB]; · iexact HB
  iintro HK HV HB
  iapply Hk $$ [HK HV HsK HsV] HB HO
  unfold anyOf
  isplitl [HK]; · iexists _; iexact HK
  isplitl [HV]; · iexists _; iexact HV
  isplitl [HsK]; · iexact HsK
  iexact HsV

theorem wp_chunkNext (s : ℕ) (hs : s < 3) (d g d' g' : Fin 4) (O : CellTallies nD τ sig Unit) (hO : Above 0 O) (Kt : PUnit → sProp 𝕄) :
    iprop(levAts L lv ∗ flying m c s hs d g ∗ arrays m c ∗ obufI c (2 * g.val) (OB m ρ c d) ∗ owed c O
        ∗ (flying m c s hs d' g' -∗ arrays m c -∗ obufI c (2 * g.val + 2) (OB m ρ c d) -∗ owed c O -∗ Kt ⟨⟩))
      ⊢ 𝕎[c] (chunkNext c s hs d g d' g' (Qv m ρ c d)) Kt := by
  unfold chunkNext
  simp only [wp_bind]
  iintro ⟨#Hlev, Hf, HA, HB, HO, Hk⟩
  iapply (wp_chunk m ρ c s hs d g O hO)
  isplitr; · iexact Hlev
  isplitl [Hf]; · iexact Hf
  isplitl [HB]; · iexact HB
  isplitl [HO]; · iexact HO
  iintro Hi HB HO
  iapply (wp_start m c s hs d' g')
  isplitl [Hi]; · iexact Hi
  isplitl [HA]; · iexact HA
  iintro Hf HA
  iapply Hk $$ Hf HA HB HO

end Chunk

end Cert.Attn
-- ==== Proof.Stages.lean ====
/-
# The body's parts

The prologue, the four stages and the epilogue: what each needs and what it leaves.
-/
module

public import proofs.«01_k».proof.Proof.Heads

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × RC → ℕ)

local notation "𝕎[" c "]" => wp frame (wpE (defs₀ (F := F)) 𝒱₀ (Dev.tc c : Thread nD τ) none) Set.univ

/-- The weights held in the device's memory, cast. -/
def weights (c : Dev nD) : sProp 𝕄 := iprop(ownsTc c wqM fullShare (WQB m ρ c) ∗ ownsTc c woM fullShare (WOB m ρ c))
/-- The duties of the `j`-th send of rows and of the `j`-th send of a partial result. -/
def rowToks (c : Dev nD) (j : Fin 3) : sProp 𝕄 := iprop(dutyTok ER (cell c (.agS j)) 0 0 ∗ dutyTok ER (cell (up c j) (.agR j.rev)) 0 0)
def partToks (c : Dev nD) (j : Fin 3) : sProp 𝕄 := iprop(dutyTok ER (cell c (.psS j)) 0 0 ∗ dutyTok ER (cell (up c j) (.prR j.rev)) 0 0)
/-- The peer's slot the `j`-th partial result goes to. -/
def room (c : Dev nD) (j : Fin 3) : sProp 𝕄 := anyOf (up c j) (prSlot (j.rev.val + 1) (by omega))

theorem anyOf_elim (c : Dev nD) {sp : Space} {sh : Shape} {e : EltTy} (b : Memref sig .tc sp sh e) :
    (anyOf c b : sProp 𝕄) ⊢ iprop(∃ X, ownsTc c b fullShare X) := Entails.rfl
theorem anyOf_intro (c : Dev nD) {sp : Space} {sh : Shape} {e : EltTy} (b : Memref sig .tc sp sh e) (X : sh.Idx → Elt F e) :
    ownsTc c b fullShare X ⊢ (anyOf c b : sProp 𝕄) := by
  unfold anyOf
  iintro H
  iexists X; iexact H

section Parts
variable (c : Dev nD)

theorem wp_loadW (b : Memref sig .tc .vmem S1024x1024 .bf16) (X : FVec F S1024x1024 .bf16) (Kt : FVec F S1024x1024 .bf16 → sProp 𝕄) :
    iprop(ownsTc c b fullShare X ∗ (ownsTc c b fullShare X -∗ Kt X)) ⊢ 𝕎[c] (loadW b) Kt := by
  unfold loadW
  exact wp_loadFull c b _ fullShare X Kt

theorem wp_queries (s : ℕ) (h : s < 4) (d : Fin 4) (q : PosShare TreeShare) (Kt : FVec F S256x1024 .bf16 → sProp 𝕄) :
    iprop(ownsTc c (xSlot s h) q (xbf m ρ (peer c d)) ∗ weights m ρ c
        ∗ (ownsTc c (xSlot s h) q (xbf m ρ (peer c d)) -∗ weights m ρ c -∗ Kt (Qv m ρ c d)))
      ⊢ 𝕎[c] (queries s h) Kt := by
  unfold queries weights
  simp only [wp_bind]
  iintro ⟨Hx, ⟨Hq, Ho⟩, Hk⟩
  unfold loadX
  iapply (wp_loadSlot c xallM (Rect.unit (s := S4x256x1024) ![s, 0, 0] S1x256x1024.size (inb4 s h)) (fun _ => rfl) squeezes_S1x256x1024_S256x1024
    shapeCasts_S1x256x1024_S256x1024 q (xbf m ρ (peer c d)))
  isplitl [Hx]; · iexact Hx
  iintro %v %hv Hx
  iapply (wp_loadW c wqM)
  isplitl [Hq]; · iexact Hq
  iintro Hq
  rw [show (pure (k0_pay4 v (WQB m ρ c)) : KProg F _) = .ret (Qv m ρ c d) from by unfold Qv; rw [← hv]; rfl, wp_ret]
  imodintro
  iapply Hk $$ Hx
  isplitl [Hq]; · iexact Hq
  iexact Ho

/-- Four chunks of a stage, each followed by the copy of a chunk to come. -/
theorem wp_fourChunks (s₁ s₂ s₃ : ℕ) (h₁ : s₁ < 3) (h₂ : s₂ < 3) (h₃ : s₃ < 3) (d d' : Fin 4) (O : CellTallies nD τ sig Unit) (hO : Above 0 O) (Kt : PUnit → sProp 𝕄) :
    iprop(levAts L lv ∗ owed c O ∗ anyOf c obufM ∗ arrays m c ∗ flying m c s₁ h₁ d 0 ∗ flying m c s₂ h₂ d 1 ∗ flying m c s₃ h₃ d 2
        ∗ (owed c O -∗ ownsTc c obufM fullShare (OB m ρ c d) -∗ arrays m c -∗ flying m c s₂ h₂ d' 0 -∗ flying m c s₃ h₃ d' 1 -∗ flying m c s₁ h₁ d' 2 -∗ Kt ⟨⟩))
      ⊢ 𝕎[c] (chunkNext c s₁ h₁ d 0 d 3 (Qv m ρ c d)) (fun _ => 𝕎[c] (chunkNext c s₂ h₂ d 1 d' 0 (Qv m ρ c d)) (fun _ =>
          𝕎[c] (chunkNext c s₃ h₃ d 2 d' 1 (Qv m ρ c d)) (fun _ => 𝕎[c] (chunkNext c s₁ h₁ d 3 d' 2 (Qv m ρ c d)) Kt))) := by
  iintro ⟨#Hlev, HO, HB, HA, H1, H2, H3, Hk⟩
  ihave HB := (obufI_zero c (OB m ρ c d)) $$ HB
  iapply (wp_chunkNext m ρ c s₁ h₁ d 0 d 3 O hO)
  isplitr; · iexact Hlev
  isplitl [H1]; · iexact H1
  isplitl [HA]; · iexact HA
  isplitl [HB]; · iexact HB
  isplitl [HO]; · iexact HO
  iintro H1 HA HB HO
  iapply (wp_chunkNext m ρ c s₂ h₂ d 1 d' 0 O hO)
  isplitr; · iexact Hlev
  isplitl [H2]; · iexact H2
  isplitl [HA]; · iexact HA
  isplitl [HB]; · iexact HB
  isplitl [HO]; · iexact HO
  iintro H2 HA HB HO
  iapply (wp_chunkNext m ρ c s₃ h₃ d 2 d' 1 O hO)
  isplitr; · iexact Hlev
  isplitl [H3]; · iexact H3
  isplitl [HA]; · iexact HA
  isplitl [HB]; · iexact HB
  isplitl [HO]; · iexact HO
  iintro H3 HA HB HO
  iapply (wp_chunkNext m ρ c s₁ h₁ d 3 d' 2 O hO)
  isplitr; · iexact Hlev
  isplitl [H1]; · iexact H1
  isplitl [HA]; · iexact HA
  isplitl [HB]; · iexact HB
  isplitl [HO]; · iexact HO
  iintro H1 HA HB HO
  iapply Hk $$ HO [HB] HA H2 H3 H1
  iapply (obufI_full c (OB m ρ c d)); iexact HB

/-- The last stage's chunks: only one more copy is left to start. -/
theorem wp_lastChunks (O : CellTallies nD τ sig Unit) (hO : Above 0 O) (Kt : PUnit → sProp 𝕄) :
    iprop(levAts L lv ∗ owed c O ∗ anyOf c obufM ∗ arrays m c ∗ flying m c 0 (by decide) 3 0 ∗ flying m c 1 (by decide) 3 1 ∗ flying m c 2 (by decide) 3 2
        ∗ (owed c O -∗ ownsTc c obufM fullShare (OB m ρ c 3) -∗ arrays m c -∗ idle c 0 (by decide) -∗ idle c 1 (by decide) -∗ idle c 2 (by decide) -∗ Kt ⟨⟩))
      ⊢ 𝕎[c] (chunkNext c 0 (by decide) 3 0 3 3 (Qv m ρ c 3)) (fun _ => 𝕎[c] (chunk c 1 (by decide) 3 1 (Qv m ρ c 3)) (fun _ =>
          𝕎[c] (chunk c 2 (by decide) 3 2 (Qv m ρ c 3)) (fun _ => 𝕎[c] (chunk c 0 (by decide) 3 3 (Qv m ρ c 3)) Kt))) := by
  iintro ⟨#Hlev, HO, HB, HA, H1, H2, H3, Hk⟩
  ihave HB := (obufI_zero c (OB m ρ c 3)) $$ HB
  iapply (wp_chunkNext m ρ c 0 _ 3 0 3 3 O hO)
  isplitr; · iexact Hlev
  isplitl [H1]; · iexact H1
  isplitl [HA]; · iexact HA
  isplitl [HB]; · iexact HB
  isplitl [HO]; · iexact HO
  iintro H1 HA HB HO
  iapply (wp_chunk m ρ c 1 _ 3 1 O hO)
  isplitr; · iexact Hlev
  isplitl [H2]; · iexact H2
  isplitl [HB]; · iexact HB
  isplitl [HO]; · iexact HO
  iintro H2 HB HO
  iapply (wp_chunk m ρ c 2 _ 3 2 O hO)
  isplitr; · iexact Hlev
  isplitl [H3]; · iexact H3
  isplitl [HB]; · iexact HB
  isplitl [HO]; · iexact HO
  iintro H3 HB HO
  iapply (wp_chunk m ρ c 0 _ 3 3 O hO)
  isplitr; · iexact Hlev
  isplitl [H1]; · iexact H1
  isplitl [HB]; · iexact HB
  isplitl [HO]; · iexact HO
  iintro H1 HB HO
  iapply Hk $$ HO [HB] HA H1 H2 H3
  iapply (obufI_full c (OB m ρ c 3)); iexact HB

/-- The end of stage `j + 1`. -/
theorem wp_partSend (j : Fin 3) (e : Dev nD) (he : e = up c j) (O : CellTallies nD τ sig Unit) (Kt : PUnit → sProp 𝕄) :
    iprop(records m ρ K ∗ owed c (O + owedP c j) ∗ ownsTc c obufM fullShare (OB m ρ c j.succ) ∗ weights m ρ c ∗ anyOf c (psSlot j.val j.isLt)
        ∗ partToks c j ∗ room c j
        ∗ (owed c O -∗ anyOf c obufM -∗ weights m ρ c -∗ cred (tallyAt (cell c (.psS j)) () N) -∗ Kt ⟨⟩))
      ⊢ 𝕎[c] (partSend e (j.rev.val + 1) j.val (by omega) j.isLt) Kt := by
  unfold partSend weights partToks room
  simp only [wp_bind]
  iintro ⟨#HR, HO, HB, ⟨Hq, Hw⟩, Hp, ⟨Ht1, Ht2⟩, Hroom, Hk⟩
  ihave Hp := (anyOf_elim c (psSlot j.val j.isLt)) $$ Hp
  icases Hp with ⟨%Y, Hp⟩
  unfold loadO
  iapply (wp_loadFull c obufM _ fullShare)
  isplitl [HB]; · iexact HB
  iintro HB
  iapply (wp_loadW c woM)
  isplitl [Hw]; · iexact Hw
  iintro Hw
  unfold loadPs storePs sendPs
  iapply (wp_loadSlot c psM (Rect.unit (s := S3x256x1024) ![j.val, 0, 0] S1x256x1024.size (inb3 j.val j.isLt)) (fun _ => rfl) squeezes_S1x256x1024_S256x1024
    shapeCasts_S1x256x1024_S256x1024 fullShare Y)
  isplitl [Hp]; · iexact Hp
  iintro %v %hv Hp
  iapply (wp_storeSlot c psM (Rect.unit (s := S3x256x1024) ![j.val, 0, 0] S1x256x1024.size (inb3 j.val j.isLt)) (fun _ => rfl) squeezes_S1x256x1024_S256x1024
    shapeCasts_S1x256x1024_S256x1024)
  isplitl [Hp]; · unfold anyOf; iexists Y; iexact Hp
  iintro Hp
  have hR : pay m ρ (up c j) (some (.prR j.rev)) 0 = ownsTc (up c j) (prSlot (j.rev.val + 1) (Nat.succ_lt_succ j.rev.isLt)) fullShare (PS m ρ c j) := by
    have e : PR m ρ (up c j) j.rev = PS m ρ c j := by unfold PR; rw [up_rev, Fin.rev_rev]
    rw [← e]; rfl
  iapply (wp_sendSlot m ρ K c j e he (.psS j) (.prR j.rev) (fun h => nomatch h) (fun h => nomatch h) (psSendSem j.val j.isLt)
    (prRecvSem (j.rev.val + 1) (Nat.succ_lt_succ j.rev.isLt)) rfl rfl
    (psSlot j.val j.isLt) (prSlot (j.rev.val + 1) (Nat.succ_lt_succ j.rev.isLt)) rfl fullShare (PS m ρ c j) rfl hR O)
  isplitr; · iexact HR
  isplitl [HO]; · iexact HO
  isplitl [Hp]; · iexact Hp
  isplitl [Hroom]; · iexact Hroom
  isplitl [Ht1]; · iexact Ht1
  isplitl [Ht2]; · iexact Ht2
  iintro Hc HO
  iapply Hk $$ HO [HB] [Hq Hw] Hc
  · unfold anyOf; iexists _; iexact HB
  · isplitl [Hq]; · iexact Hq
    iexact Hw

/-! ## The stages -/

theorem wp_stage0 (Kt : FVec F S256x1024 .f32 → sProp 𝕄) :
    iprop(levAts L lv ∗ owed c (OP0 c) ∗ anyOf c obufM ∗ arrays m c ∗ weights m ρ c ∗ ownsTc c (xSlot 0 (by decide)) shrKept (xbf m ρ c)
        ∗ flying m c 0 (by decide) 0 0 ∗ flying m c 1 (by decide) 0 1 ∗ flying m c 2 (by decide) 0 2
        ∗ (owed c (OP0 c) -∗ anyOf c obufM -∗ arrays m c -∗ weights m ρ c -∗ ownsTc c (xSlot 0 (by decide)) shrKept (xbf m ρ c)
            -∗ flying m c 1 (by decide) 1 0 -∗ flying m c 2 (by decide) 1 1 -∗ flying m c 0 (by decide) 1 2 -∗ Kt (PART m ρ c 0)))
      ⊢ 𝕎[c] (stage0 c) Kt := by
  unfold stage0
  simp only [wp_bind]
  iintro ⟨#Hlev, HO, HB, HA, Hw, Hx, H1, H2, H3, Hk⟩
  iapply (wp_queries m ρ c 0 _ 0 shrKept)
  rw [peer_zero]
  isplitl [Hx]; · iexact Hx
  isplitl [Hw]; · iexact Hw
  iintro Hx Hw
  iapply (wp_fourChunks m ρ c 0 1 2 _ _ _ 0 1 (OP0 c) (above_OP0 (by decide) c))
  isplitr; · iexact Hlev
  isplitl [HO]; · iexact HO
  isplitl [HB]; · iexact HB
  isplitl [HA]; · iexact HA
  isplitl [H1]; · iexact H1
  isplitl [H2]; · iexact H2
  isplitl [H3]; · iexact H3
  iintro HO HB HA H1 H2 H3
  unfold weights loadO
  icases Hw with ⟨Hq, Hw⟩
  iapply (wp_loadFull c obufM _ fullShare)
  isplitl [HB]; · iexact HB
  iintro HB
  iapply (wp_loadW c woM)
  isplitl [Hw]; · iexact Hw
  iintro Hw
  rw [show (pure (k0_pay23 (OB m ρ c 0) (WOB m ρ c)) : KProg F _) = .ret (PART m ρ c 0) from rfl, wp_ret]
  imodintro
  iapply Hk $$ HO [HB] HA [Hq Hw] Hx H1 H2 H3
  · unfold anyOf; iexists _; iexact HB
  · isplitl [Hq]; · iexact Hq
    iexact Hw

/-- The start of stage `j + 1`: the rows of `up c j` come in. -/
theorem wp_arrive (j : Fin 3) (O : CellTallies nD τ sig Unit) (hO : Above 2 O) (Kt : FVec F S256x1024 .bf16 → sProp 𝕄) :
    iprop(levAts L lv ∗ records m ρ K ∗ ticket c (.agR j) N ∗ owed c O ∗ weights m ρ c
        ∗ (owed c O -∗ weights m ρ c -∗ anyOf c (xSlot (j.val + 1) (by omega)) -∗ semVal (cell c (.agR j)) 0 -∗ Kt (Qv m ρ c j.succ)))
      ⊢ 𝕎[c] (waitXRecv (j.val + 1) (by omega)) (fun _ => 𝕎[c] (queries (j.val + 1) (by omega)) Kt) := by
  iintro ⟨#Hlev, #HR, Ht, HO, Hw, Hk⟩
  unfold waitXRecv
  iapply (wp_waitCell m ρ K c (.agR j) (fun h => nomatch h) (agRecvSem (j.val + 1) (Nat.succ_lt_succ j.isLt)) rfl
    (xSlot 0 (Nat.succ_pos 3)) (xSlot (j.val + 1) (Nat.succ_lt_succ j.isLt)) rfl O hO)
  isplitr; · iexact Hlev
  isplitr; · iexact HR
  isplitl [Ht]; · iexact Ht
  isplitl [HO]; · iexact HO
  iintro Hx Hs HO
  ihave Hx := (show pay m ρ c (some (.agR j)) 0 ⊢ ownsTc c (xSlot (j.val + 1) (by omega)) fullShare (xbf m ρ (up c j)) from Entails.rfl) $$ Hx
  iapply (wp_queries m ρ c (j.val + 1) _ j.succ fullShare)
  rw [peer_succ]
  isplitl [Hx]; · iexact Hx
  isplitl [Hw]; · iexact Hw
  iintro Hx Hw
  iapply Hk $$ HO Hw [Hx] Hs
  unfold anyOf; iexists _; iexact Hx

/-- What stage `j + 1` needs besides the slots of keys and values, -/
def stageIn (j : Fin 3) (O : CellTallies nD τ sig Unit) : sProp 𝕄 :=
  iprop(ticket c (.agR j) N ∗ owed c O ∗ anyOf c obufM ∗ arrays m c ∗ weights m ρ c ∗ anyOf c (psSlot j.val j.isLt) ∗ partToks c j ∗ room c j)
/-- and what it leaves. -/
def stageOut (j : Fin 3) (O : CellTallies nD τ sig Unit) : sProp 𝕄 :=
  iprop(owed c O ∗ anyOf c obufM ∗ arrays m c ∗ weights m ρ c ∗ anyOf c (xSlot (j.val + 1) (by omega)) ∗ semVal (cell c (.agR j)) 0
    ∗ cred (tallyAt (cell c (.psS j)) () N))

theorem wp_stage1 (Kt : PUnit → sProp 𝕄) :
    iprop(levAts L lv ∗ records m ρ K ∗ stageIn m ρ c 0 (OP0 c)
        ∗ flying m c 1 (by decide) 1 0 ∗ flying m c 2 (by decide) 1 1 ∗ flying m c 0 (by decide) 1 2
        ∗ (stageOut m ρ c 0 (OP1 c) -∗ flying m c 2 (by decide) 2 0 -∗ flying m c 0 (by decide) 2 1 -∗ flying m c 1 (by decide) 2 2 -∗ Kt ⟨⟩))
      ⊢ 𝕎[c] (stage1 c) Kt := by
  unfold stage1 stageIn stageOut
  simp only [wp_bind]
  iintro ⟨#Hlev, #HR, ⟨Ht, HO, HB, HA, Hw, Hp, Htk, Hr⟩, H1, H2, H3, Hk⟩
  iapply (wp_arrive m ρ K c 0 (OP0 c) (above_OP0 (by decide) c))
  isplitr; · iexact Hlev
  isplitr; · iexact HR
  isplitl [Ht]; · iexact Ht
  isplitl [HO]; · iexact HO
  isplitl [Hw]; · iexact Hw
  iintro HO Hw Hx Hs
  iapply (wp_fourChunks m ρ c 1 2 0 _ _ _ 1 2 (OP0 c) (above_OP0 (by decide) c))
  isplitr; · iexact Hlev
  isplitl [HO]; · iexact HO
  isplitl [HB]; · iexact HB
  isplitl [HA]; · iexact HA
  isplitl [H1]; · iexact H1
  isplitl [H2]; · iexact H2
  isplitl [H3]; · iexact H3
  iintro HO HB HA H1 H2 H3
  iapply (wp_partSend m ρ K c 0 _ (dev7_eq c) (OP1 c))
  isplitr; · iexact HR
  isplitl [HO]; · iexact HO
  isplitl [HB]; · iexact HB
  isplitl [Hw]; · iexact Hw
  isplitl [Hp]; · iexact Hp
  isplitl [Htk]; · iexact Htk
  isplitl [Hr]; · iexact Hr
  iintro HO HB Hw Hc
  iapply Hk $$ [HO HB HA Hw Hx Hs Hc] H1 H2 H3
  isplitl [HO]; · iexact HO
  isplitl [HB]; · iexact HB
  isplitl [HA]; · iexact HA
  isplitl [Hw]; · iexact Hw
  isplitl [Hx]; · iexact Hx
  isplitl [Hs]; · iexact Hs
  iexact Hc

theorem wp_stage2 (Kt : PUnit → sProp 𝕄) :
    iprop(levAts L lv ∗ records m ρ K ∗ stageIn m ρ c 1 (OP1 c)
        ∗ flying m c 2 (by decide) 2 0 ∗ flying m c 0 (by decide) 2 1 ∗ flying m c 1 (by decide) 2 2
        ∗ (stageOut m ρ c 1 (OP2 c) -∗ flying m c 0 (by decide) 3 0 -∗ flying m c 1 (by decide) 3 1 -∗ flying m c 2 (by decide) 3 2 -∗ Kt ⟨⟩))
      ⊢ 𝕎[c] (stage2 c) Kt := by
  unfold stage2 stageIn stageOut
  simp only [wp_bind]
  iintro ⟨#Hlev, #HR, ⟨Ht, HO, HB, HA, Hw, Hp, Htk, Hr⟩, H1, H2, H3, Hk⟩
  iapply (wp_arrive m ρ K c 1 (OP1 c) (above_OP1 (by decide) c))
  isplitr; · iexact Hlev
  isplitr; · iexact HR
  isplitl [Ht]; · iexact Ht
  isplitl [HO]; · iexact HO
  isplitl [Hw]; · iexact Hw
  iintro HO Hw Hx Hs
  iapply (wp_fourChunks m ρ c 2 0 1 _ _ _ 2 3 (OP1 c) (above_OP1 (by decide) c))
  isplitr; · iexact Hlev
  isplitl [HO]; · iexact HO
  isplitl [HB]; · iexact HB
  isplitl [HA]; · iexact HA
  isplitl [H1]; · iexact H1
  isplitl [H2]; · iexact H2
  isplitl [H3]; · iexact H3
  iintro HO HB HA H1 H2 H3
  iapply (wp_partSend m ρ K c 1 _ (dev8_eq c) (OP2 c))
  isplitr; · iexact HR
  isplitl [HO]; · iexact HO
  isplitl [HB]; · iexact HB
  isplitl [Hw]; · iexact Hw
  isplitl [Hp]; · iexact Hp
  isplitl [Htk]; · iexact Htk
  isplitl [Hr]; · iexact Hr
  iintro HO HB Hw Hc
  iapply Hk $$ [HO HB HA Hw Hx Hs Hc] H1 H2 H3
  isplitl [HO]; · iexact HO
  isplitl [HB]; · iexact HB
  isplitl [HA]; · iexact HA
  isplitl [Hw]; · iexact Hw
  isplitl [Hx]; · iexact Hx
  isplitl [Hs]; · iexact Hs
  iexact Hc

theorem wp_stage3 (Kt : PUnit → sProp 𝕄) :
    iprop(levAts L lv ∗ records m ρ K ∗ stageIn m ρ c 2 (OP2 c)
        ∗ flying m c 0 (by decide) 3 0 ∗ flying m c 1 (by decide) 3 1 ∗ flying m c 2 (by decide) 3 2
        ∗ (stageOut m ρ c 2 (OP3 c) -∗ idle c 0 (by decide) -∗ idle c 1 (by decide) -∗ idle c 2 (by decide) -∗ Kt ⟨⟩))
      ⊢ 𝕎[c] (stage3 c) Kt := by
  unfold stage3 stageIn stageOut
  simp only [wp_bind]
  iintro ⟨#Hlev, #HR, ⟨Ht, HO, HB, HA, Hw, Hp, Htk, Hr⟩, H1, H2, H3, Hk⟩
  iapply (wp_arrive m ρ K c 2 (OP2 c) (above_OP2 (by decide) c))
  isplitr; · iexact Hlev
  isplitr; · iexact HR
  isplitl [Ht]; · iexact Ht
  isplitl [HO]; · iexact HO
  isplitl [Hw]; · iexact Hw
  iintro HO Hw Hx Hs
  iapply (wp_lastChunks m ρ c (OP2 c) (above_OP2 (by decide) c))
  isplitr; · iexact Hlev
  isplitl [HO]; · iexact HO
  isplitl [HB]; · iexact HB
  isplitl [HA]; · iexact HA
  isplitl [H1]; · iexact H1
  isplitl [H2]; · iexact H2
  isplitl [H3]; · iexact H3
  iintro HO HB HA H1 H2 H3
  iapply (wp_partSend m ρ K c 2 _ (dev9_eq c) (OP3 c))
  isplitr; · iexact HR
  isplitl [HO]; · iexact HO
  isplitl [HB]; · iexact HB
  isplitl [Hw]; · iexact Hw
  isplitl [Hp]; · iexact Hp
  isplitl [Htk]; · iexact Htk
  isplitl [Hr]; · iexact Hr
  iintro HO HB Hw Hc
  iapply Hk $$ [HO HB HA Hw Hx Hs Hc] H1 H2 H3
  isplitl [HO]; · iexact HO
  isplitl [HB]; · iexact HB
  isplitl [HA]; · iexact HA
  isplitl [Hw]; · iexact Hw
  isplitl [Hx]; · iexact Hx
  isplitl [Hs]; · iexact Hs
  iexact Hc

end Parts

end Cert.Attn
-- ==== Proof.Body.lean ====
/-
# The body

Its prologue and its epilogue, and the whole of it: every device runs it, at its own id.
-/
module

public import proofs.«01_k».proof.Proof.Stages

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × RC → ℕ)

local notation "𝕎[" c "]" => wp frame (wpE (defs₀ (F := F)) 𝒱₀ (Dev.tc c : Thread nD τ) none) Set.univ

/-- Slot 0 of the gathered rows: the device's own. -/
abbrev x0M : Memref sig .tc .vmem S256x1024 .bf16 := xSlot 0 (Nat.succ_pos 3)

section Parts
variable (c : Dev nD)

/-! ## The rows sent, and the shares they are sent with -/

theorem rows_split (X : FVec F S256x1024 .bf16) : (ownsTc c x0M fullShare X : sProp 𝕄)
    ⊢ iprop(ownsTc c x0M (shr 0) X ∗ ownsTc c x0M (shr 1) X ∗ ownsTc c x0M (shr 2) X
        ∗ ownsTc c x0M shrKept X) := by
  iintro H
  ihave H := (owns_halves (c : Thread nD τ) x0M fullShare X).1 $$ H
  icases H with ⟨H0, H⟩
  ihave H := (owns_halves (c : Thread nD τ) x0M fullShare.right X).1 $$ H
  icases H with ⟨H1, H⟩
  ihave H := (owns_halves (c : Thread nD τ) x0M fullShare.right.right X).1 $$ H
  icases H with ⟨H2, H3⟩
  isplitl [H0]; · iexact H0
  isplitl [H1]; · iexact H1
  isplitl [H2]; · iexact H2
  iexact H3

theorem rows_join (X : FVec F S256x1024 .bf16) :
    iprop(ownsTc c x0M (shr 0) X ∗ ownsTc c x0M (shr 1) X ∗ ownsTc c x0M (shr 2) X
        ∗ ownsTc c x0M shrKept X) ⊢ (ownsTc c x0M fullShare X : sProp 𝕄) := by
  iintro ⟨H0, H1, H2, H3⟩
  iapply (owns_halves (c : Thread nD τ) x0M fullShare X).2
  isplitl [H0]; · iexact H0
  iapply (owns_halves (c : Thread nD τ) x0M fullShare.right X).2
  isplitl [H1]; · iexact H1
  iapply (owns_halves (c : Thread nD τ) x0M fullShare.right.right X).2
  isplitl [H2]; · iexact H2
  iexact H3

theorem wp_sendRows (j : Fin 3) (e : Dev nD) (he : e = up c j) (O : CellTallies nD τ sig Unit) (Kt : PUnit → sProp 𝕄) :
    iprop(records m ρ K ∗ owed c (O + owedA c j) ∗ ownsTc c x0M (shr j) (xbf m ρ c) ∗ anyOf (up c j) (xSlot (j.rev.val + 1) (by omega))
        ∗ rowToks c j ∗ (owed c O -∗ cred (tallyAt (cell c (.agS j)) () N) -∗ Kt ⟨⟩))
      ⊢ 𝕎[c] (sendX e (j.rev.val + 1) j.val (by omega) j.isLt) Kt := by
  unfold sendX rowToks
  iintro ⟨#HR, HO, Hx, Hd, ⟨Ht1, Ht2⟩, Hk⟩
  have hR : pay m ρ (up c j) (some (.agR j.rev)) 0 = ownsTc (up c j) (xSlot (j.rev.val + 1) (Nat.succ_lt_succ j.rev.isLt)) fullShare (xbf m ρ c) := by
    have e : xbf m ρ (up (up c j) j.rev) = xbf m ρ c := by rw [up_rev]
    rw [← e]; rfl
  iapply (wp_sendSlot m ρ K c j e he (.agS j) (.agR j.rev) (fun h => nomatch h) (fun h => nomatch h) (agSendSem j.val j.isLt)
    (agRecvSem (j.rev.val + 1) (Nat.succ_lt_succ j.rev.isLt)) rfl rfl
    x0M (xSlot (j.rev.val + 1) (Nat.succ_lt_succ j.rev.isLt)) rfl (shr j) (xbf m ρ c) rfl hR O)
  isplitr; · iexact HR
  isplitl [HO]; · iexact HO
  isplitl [Hx]; · iexact Hx
  isplitl [Hd]; · iexact Hd
  isplitl [Ht1]; · iexact Ht1
  isplitl [Ht2]; · iexact Ht2
  iintro Hc HO
  iapply Hk $$ HO Hc

/-! ## The waits of the epilogue -/

theorem wp_takePart (j : Fin 3) (Kt : Vec F S1x256x1024 .bf16 → sProp 𝕄) :
    iprop(levAts L lv ∗ records m ρ K ∗ ticket c (.prR j) N ∗ owed c (OP3 c)
        ∗ (∀ v, ⌜shapeCast S256x1024 v shapeCasts_S1x256x1024_S256x1024 = PR m ρ c j⌝ -∗ anyOf c (prSlot (j.val + 1) (by omega)) -∗ semVal (cell c (.prR j)) 0
            -∗ owed c (OP3 c) -∗ Kt v))
      ⊢ 𝕎[c] (waitPrRecv (j.val + 1) (by omega)) (fun _ => 𝕎[c] (loadPr (j.val + 1) (by omega)) Kt) := by
  iintro ⟨#Hlev, #HR, Ht, HO, Hk⟩
  unfold waitPrRecv loadPr
  iapply (wp_waitCell m ρ K c (.prR j) (fun h => nomatch h) (prRecvSem (j.val + 1) (Nat.succ_lt_succ j.isLt)) rfl
    (psSlot 0 (Nat.succ_pos 2)) (prSlot (j.val + 1) (Nat.succ_lt_succ j.isLt)) rfl (OP3 c) (above_OP3 _ c))
  isplitr; · iexact Hlev
  isplitr; · iexact HR
  isplitl [Ht]; · iexact Ht
  isplitl [HO]; · iexact HO
  iintro Hx Hs HO
  ihave Hx := (show pay m ρ c (some (.prR j)) 0 ⊢ ownsTc c (prSlot (j.val + 1) (by omega)) fullShare (PR m ρ c j) from Entails.rfl) $$ Hx
  iapply (wp_loadSlot c prM (Rect.unit (s := S4x256x1024) ![j.val + 1, 0, 0] S1x256x1024.size (inb4 (j.val + 1) (by omega))) (fun _ => rfl) squeezes_S1x256x1024_S256x1024
    shapeCasts_S1x256x1024_S256x1024 fullShare (PR m ρ c j))
  isplitl [Hx]; · iexact Hx
  iintro %v %hv Hx
  iapply Hk $$ %v [] [Hx] Hs HO
  · ipureintro; exact hv
  iapply (anyOf_intro c (prSlot (j.val + 1) (Nat.succ_lt_succ j.isLt)) (PR m ρ c j)); iexact Hx

theorem wp_doneRows (j : Fin 3) (Kt : PUnit → sProp 𝕄) :
    iprop(levAts L lv ∗ records m ρ K ∗ ticket c (.agS j) N ∗ owed c (OP3 c)
        ∗ (ownsTc c x0M (shr j) (xbf m ρ c) -∗ semVal (cell c (.agS j)) 0 -∗ owed c (OP3 c) -∗ Kt ⟨⟩))
      ⊢ 𝕎[c] (waitXSend j.val (j.rev.val + 1) j.isLt (by omega)) Kt := by
  iintro ⟨#Hlev, #HR, Ht, HO, Hk⟩
  unfold waitXSend
  iapply (wp_waitCell m ρ K c (.agS j) (fun h => nomatch h) (agSendSem j.val j.isLt) rfl
    (xSlot (j.rev.val + 1) (Nat.succ_lt_succ j.rev.isLt)) x0M rfl (OP3 c) (above_OP3 _ c))
  isplitr; · iexact Hlev
  isplitr; · iexact HR
  isplitl [Ht]; · iexact Ht
  isplitl [HO]; · iexact HO
  iintro Hx Hs HO
  iapply Hk $$ [Hx] Hs HO
  iapply (show pay m ρ c (some (.agS j)) 0 ⊢ ownsTc c x0M (shr j) (xbf m ρ c) from Entails.rfl); iexact Hx

theorem wp_doneParts (j : Fin 3) (Kt : PUnit → sProp 𝕄) :
    iprop(levAts L lv ∗ records m ρ K ∗ ticket c (.psS j) N ∗ owed c (OP3 c)
        ∗ (anyOf c (psSlot j.val j.isLt) -∗ semVal (cell c (.psS j)) 0 -∗ owed c (OP3 c) -∗ Kt ⟨⟩))
      ⊢ 𝕎[c] (waitPsSend j.val (j.rev.val + 1) j.isLt (by omega)) Kt := by
  iintro ⟨#Hlev, #HR, Ht, HO, Hk⟩
  unfold waitPsSend
  iapply (wp_waitCell m ρ K c (.psS j) (fun h => nomatch h) (psSendSem j.val j.isLt) rfl
    (prSlot (j.rev.val + 1) (Nat.succ_lt_succ j.rev.isLt)) (psSlot j.val j.isLt) rfl (OP3 c) (above_OP3 _ c))
  isplitr; · iexact Hlev
  isplitr; · iexact HR
  isplitl [Ht]; · iexact Ht
  isplitl [HO]; · iexact HO
  iintro Hx Hs HO
  iapply Hk $$ [Hx] Hs HO
  iapply (anyOf_intro c (psSlot j.val j.isLt) (PS m ρ c j))
  iapply (show pay m ρ c (some (.psS j)) 0 ⊢ ownsTc c (psSlot j.val j.isLt) fullShare (PS m ρ c j) from Entails.rfl); iexact Hx

/-! ## The prologue -/

/-- The staged blocks, held whole. -/
def inputs : sProp 𝕄 :=
  iprop(ownsTc c xInM fullShare (xstg m ρ c) ∗ ownsTc c wqInM fullShare (wqstg m ρ c) ∗ ownsTc c woInM fullShare (wostg m ρ c))
/-- What the meeting at the barrier needs for peer `j`: the duty of the signal, and the slots handed over. -/
def meet (j : Fin 3) : sProp 𝕄 :=
  iprop(dutyTok ER (cell (up c j) .bar) 0 j ∗ anyOf c (xSlot (j.val + 1) (by omega)) ∗ anyOf c (prSlot (j.val + 1) (by omega)))

theorem wp_prologue (Kt : PUnit → sProp 𝕄) :
    iprop(levAts L lv ∗ records m ρ K ∗ owed c (O₀ c) ∗ ticket c .bar 3 ∗ meet c 0 ∗ meet c 1 ∗ meet c 2
        ∗ rowToks c 0 ∗ rowToks c 1 ∗ rowToks c 2 ∗ inputs m ρ c ∗ anyOf c x0M ∗ anyOf c wqM ∗ anyOf c woM
        ∗ idle c 0 (by decide) ∗ idle c 1 (by decide) ∗ idle c 2 (by decide) ∗ arrays m c
        ∗ (owed c (OP0 c) -∗ semVal (cell c .bar) 0 -∗ iprop(room c 0 ∗ room c 1 ∗ room c 2)
            -∗ iprop(cred (tallyAt (cell c (.agS 0)) () N) ∗ cred (tallyAt (cell c (.agS 1)) () N) ∗ cred (tallyAt (cell c (.agS 2)) () N))
            -∗ inputs m ρ c -∗ ownsTc c x0M shrKept (xbf m ρ c) -∗ weights m ρ c
            -∗ iprop(flying m c 0 (by decide) 0 0 ∗ flying m c 1 (by decide) 0 1 ∗ flying m c 2 (by decide) 0 2) -∗ arrays m c -∗ Kt ⟨⟩))
      ⊢ 𝕎[c] (prologue c) Kt := by
  unfold prologue meet inputs weights room
  simp only [wp_bind]
  iintro ⟨#Hlev, #HR, HO, Htb, ⟨Hm0, Hx1, Hp1⟩, ⟨Hm1, Hx2, Hp2⟩, ⟨Hm2, Hx3, Hp3⟩, Hr0, Hr1, Hr2, ⟨Hix, Hiq, Hio⟩, Hx0, Hwq, Hwo, Hi0, Hi1, Hi2, HA, Hk⟩
  iapply (wp_signalPeer m ρ K c 0 _ (dev1_eq c) (OB1 c))
  isplitr; · iexact HR
  isplitl [HO]; · iexact HO
  isplitl [Hm0]; · iexact Hm0
  isplitl [Hx1]; · iexact Hx1
  isplitl [Hp1]; · iexact Hp1
  iintro HO
  iapply (wp_signalPeer m ρ K c 1 _ (dev2_eq c) (OB2 c))
  isplitr; · iexact HR
  isplitl [HO]; · iexact HO
  isplitl [Hm1]; · iexact Hm1
  isplitl [Hx2]; · iexact Hx2
  isplitl [Hp2]; · iexact Hp2
  iintro HO
  iapply (wp_signalPeer m ρ K c 2 _ (dev3_eq c) (OA0 c))
  isplitr; · iexact HR
  isplitl [HO]; · iexact HO
  isplitl [Hm2]; · iexact Hm2
  isplitl [Hx3]; · iexact Hx3
  isplitl [Hp3]; · iexact Hp3
  iintro HO
  iapply (wp_waitPeers m ρ K c (OA0 c) (above_OA0 (by decide) c))
  isplitr; · iexact Hlev
  isplitr; · iexact HR
  isplitl [Htb]; · iexact Htb
  isplitl [HO]; · iexact HO
  iintro Hpay Hsb HO
  ihave Hpay := (show iprop(pay m ρ c (some .bar) 0 ∗ pay m ρ c (some .bar) 1 ∗ pay m ρ c (some .bar) 2)
      ⊢ iprop((anyOf (up c 2) (xSlot 1 (by decide)) ∗ anyOf (up c 2) (prSlot 1 (by decide))) ∗ (anyOf (up c 1) (xSlot 2 (by decide)) ∗ anyOf (up c 1) (prSlot 2 (by decide)))
          ∗ anyOf (up c 0) (xSlot 3 (by decide)) ∗ anyOf (up c 0) (prSlot 3 (by decide))) from Entails.rfl) $$ Hpay
  icases Hpay with ⟨⟨Hy2, Hq2⟩, ⟨Hy1, Hq1⟩, ⟨Hy0, Hq0⟩⟩
  iapply (wp_loadFull c xInM _ fullShare)
  isplitl [Hix]; · iexact Hix
  iintro Hix
  ihave Hx0 := (anyOf_elim c x0M) $$ Hx0
  icases Hx0 with ⟨%X, Hx0⟩
  unfold loadX storeX0
  iapply (wp_loadSlot c xallM (Rect.unit (s := S4x256x1024) ![0, 0, 0] S1x256x1024.size (inb4 0 (by decide))) (fun _ => rfl) squeezes_S1x256x1024_S256x1024
    shapeCasts_S1x256x1024_S256x1024 fullShare X)
  isplitl [Hx0]; · iexact Hx0
  iintro %v %hv Hx0
  iapply (wp_storeSlot c xallM (Rect.unit (s := S4x256x1024) ![0, 0, 0] S1x256x1024.size (inb4 0 (by decide))) (fun _ => rfl) squeezes_S1x256x1024_S256x1024
    shapeCasts_S1x256x1024_S256x1024)
  isplitl [Hx0]; · iapply (anyOf_intro c x0M X); iexact Hx0
  iintro Hx0
  ihave Hx0 := (show ownsTc c x0M fullShare (shapeCast S256x1024 (k0_pay1 (xstg m ρ c)) shapeCasts_S1x256x1024_S256x1024) ⊢ _ from rows_split c (xbf m ρ c)) $$ Hx0
  icases Hx0 with ⟨Hs0, Hs1, Hs2, Hx0⟩
  iapply (wp_sendRows m ρ K c 0 _ (dev4_eq c) (OA1 c))
  isplitr; · iexact HR
  isplitl [HO]; · iexact HO
  isplitl [Hs0]; · iexact Hs0
  isplitl [Hy0]; · iexact Hy0
  isplitl [Hr0]; · iexact Hr0
  iintro HO Hc0
  iapply (wp_sendRows m ρ K c 1 _ (dev5_eq c) (OA2 c))
  isplitr; · iexact HR
  isplitl [HO]; · iexact HO
  isplitl [Hs1]; · iexact Hs1
  isplitl [Hy1]; · iexact Hy1
  isplitl [Hr1]; · iexact Hr1
  iintro HO Hc1
  iapply (wp_sendRows m ρ K c 2 _ (dev6_eq c) (OP0 c))
  isplitr; · iexact HR
  isplitl [HO]; · iexact HO
  isplitl [Hs2]; · iexact Hs2
  isplitl [Hy2]; · iexact Hy2
  isplitl [Hr2]; · iexact Hr2
  iintro HO Hc2
  ihave Hwq := (anyOf_elim c wqM) $$ Hwq
  icases Hwq with ⟨%Wq, Hwq⟩
  ihave Hwo := (anyOf_elim c woM) $$ Hwo
  icases Hwo with ⟨%Wo, Hwo⟩
  unfold storeW
  iapply (wp_loadFull c wqInM _ fullShare)
  isplitl [Hiq]; · iexact Hiq
  iintro Hiq
  iapply (wp_loadW c wqM)
  isplitl [Hwq]; · iexact Hwq
  iintro Hwq
  iapply (wp_storeFull c wqM)
  isplitl [Hwq]; · iapply (anyOf_intro c wqM Wq); iexact Hwq
  iintro Hwq
  iapply (wp_loadFull c woInM _ fullShare)
  isplitl [Hio]; · iexact Hio
  iintro Hio
  iapply (wp_loadW c woM)
  isplitl [Hwo]; · iexact Hwo
  iintro Hwo
  iapply (wp_storeFull c woM)
  isplitl [Hwo]; · iapply (anyOf_intro c woM Wo); iexact Hwo
  iintro Hwo
  iapply (wp_start m c 0 _ 0 0)
  isplitl [Hi0]; · iexact Hi0
  isplitl [HA]; · iexact HA
  iintro Hi0 HA
  iapply (wp_start m c 1 _ 0 1)
  isplitl [Hi1]; · iexact Hi1
  isplitl [HA]; · iexact HA
  iintro Hi1 HA
  iapply (wp_start m c 2 _ 0 2)
  isplitl [Hi2]; · iexact Hi2
  isplitl [HA]; · iexact HA
  iintro Hi2 HA
  iapply Hk $$ HO Hsb [Hq0 Hq1 Hq2] [Hc0 Hc1 Hc2] [Hix Hiq Hio] Hx0 [Hwq Hwo] [Hi0 Hi1 Hi2] HA
  · isplitl [Hq0]; · iexact Hq0
    isplitl [Hq1]; · iexact Hq1
    iexact Hq2
  · isplitl [Hc0]; · iexact Hc0
    isplitl [Hc1]; · iexact Hc1
    iexact Hc2
  · isplitl [Hix]; · iexact Hix
    isplitl [Hiq]; · iexact Hiq
    iexact Hio
  · isplitl [Hwq]; · iexact Hwq
    iexact Hwo
  · isplitl [Hi0]; · iexact Hi0
    isplitl [Hi1]; · iexact Hi1
    iexact Hi2

/-! ## The epilogue -/

/-- What the epilogue waits with, for peer `j`; and what it leaves. -/
def closing (j : Fin 3) : sProp 𝕄 := iprop(ticket c (.prR j) N ∗ ticket c (.agS j) N ∗ ticket c (.psS j) N)
def closed (j : Fin 3) : sProp 𝕄 :=
  iprop(anyOf c (prSlot (j.val + 1) (by omega)) ∗ anyOf c (psSlot j.val j.isLt)
    ∗ semVal (cell c (.prR j)) 0 ∗ semVal (cell c (.agS j)) 0 ∗ semVal (cell c (.psS j)) 0)

theorem wp_epilogue (Kt : PUnit → sProp 𝕄) :
    iprop(levAts L lv ∗ records m ρ K ∗ owed c (OP3 c) ∗ closing c 0 ∗ closing c 1 ∗ closing c 2
        ∗ ownsTc c x0M shrKept (xbf m ρ c) ∗ anyOf c outM
        ∗ (owed c (OP3 c) -∗ closed c 0 -∗ closed c 1 -∗ closed c 2 -∗ anyOf c x0M -∗ ownsTc c outM fullShare (outAt m ρ c) -∗ Kt ⟨⟩))
      ⊢ 𝕎[c] (epilogue (PART m ρ c 0)) Kt := by
  unfold epilogue closing closed
  simp only [wp_bind]
  iintro ⟨#Hlev, #HR, HO, ⟨Ht0, Hu0, Hw0⟩, ⟨Ht1, Hu1, Hw1⟩, ⟨Ht2, Hu2, Hw2⟩, Hx, Hout, Hk⟩
  iapply (wp_takePart m ρ K c 0)
  isplitr; · iexact Hlev
  isplitr; · iexact HR
  isplitl [Ht0]; · iexact Ht0
  isplitl [HO]; · iexact HO
  iintro %r1 %hr1 Hp0 Hs0 HO
  iapply (wp_takePart m ρ K c 1)
  isplitr; · iexact Hlev
  isplitr; · iexact HR
  isplitl [Ht1]; · iexact Ht1
  isplitl [HO]; · iexact HO
  iintro %r2 %hr2 Hp1 Hs1 HO
  iapply (wp_takePart m ρ K c 2)
  isplitr; · iexact Hlev
  isplitr; · iexact HR
  isplitl [Ht2]; · iexact Ht2
  isplitl [HO]; · iexact HO
  iintro %r3 %hr3 Hp2 Hs2 HO
  iapply (wp_doneRows m ρ K c 0)
  isplitr; · iexact Hlev
  isplitr; · iexact HR
  isplitl [Hu0]; · iexact Hu0
  isplitl [HO]; · iexact HO
  iintro Hx0 Hy0 HO
  iapply (wp_doneRows m ρ K c 1)
  isplitr; · iexact Hlev
  isplitr; · iexact HR
  isplitl [Hu1]; · iexact Hu1
  isplitl [HO]; · iexact HO
  iintro Hx1 Hy1 HO
  iapply (wp_doneRows m ρ K c 2)
  isplitr; · iexact Hlev
  isplitr; · iexact HR
  isplitl [Hu2]; · iexact Hu2
  isplitl [HO]; · iexact HO
  iintro Hx2 Hy2 HO
  iapply (wp_doneParts m ρ K c 0)
  isplitr; · iexact Hlev
  isplitr; · iexact HR
  isplitl [Hw0]; · iexact Hw0
  isplitl [HO]; · iexact HO
  iintro Hq0 Hz0 HO
  iapply (wp_doneParts m ρ K c 1)
  isplitr; · iexact Hlev
  isplitr; · iexact HR
  isplitl [Hw1]; · iexact Hw1
  isplitl [HO]; · iexact HO
  iintro Hq1 Hz1 HO
  iapply (wp_doneParts m ρ K c 2)
  isplitr; · iexact Hlev
  isplitr; · iexact HR
  isplitl [Hw2]; · iexact Hw2
  isplitl [HO]; · iexact HO
  iintro Hq2 Hz2 HO
  ihave Hout := (anyOf_elim c outM) $$ Hout
  icases Hout with ⟨%Y, Hout⟩
  iapply (wp_loadFull c outM _ fullShare)
  isplitl [Hout]; · iexact Hout
  iintro Hout
  iapply (wp_storeFull c outM)
  isplitl [Hout]; · iapply (anyOf_intro c outM Y); iexact Hout
  iintro Hout
  have hout : k0_pay76 (k0_pay75 (k0_pay74 (PART m ρ c 0) r1 r2) r3) = outAt m ρ c := by
    unfold outAt; rw [← hr1, ← hr2, ← hr3]; rfl
  rw [hout]
  iapply Hk $$ HO [Hp0 Hs0 Hy0 Hq0 Hz0] [Hp1 Hs1 Hy1 Hq1 Hz1] [Hp2 Hs2 Hy2 Hq2 Hz2] [Hx0 Hx1 Hx2 Hx] Hout
  · isplitl [Hp0]; · iexact Hp0
    isplitl [Hq0]; · iexact Hq0
    isplitl [Hs0]; · iexact Hs0
    isplitl [Hy0]; · iexact Hy0
    iexact Hz0
  · isplitl [Hp1]; · iexact Hp1
    isplitl [Hq1]; · iexact Hq1
    isplitl [Hs1]; · iexact Hs1
    isplitl [Hy1]; · iexact Hy1
    iexact Hz1
  · isplitl [Hp2]; · iexact Hp2
    isplitl [Hq2]; · iexact Hq2
    isplitl [Hs2]; · iexact Hs2
    isplitl [Hy2]; · iexact Hy2
    iexact Hz2
  · iapply (anyOf_intro c x0M (xbf m ρ c))
    iapply (rows_join c (xbf m ρ c))
    isplitl [Hx0]; · iexact Hx0
    isplitl [Hx1]; · iexact Hx1
    isplitl [Hx2]; · iexact Hx2
    iexact Hx

/-! ## The body -/

/-- A device's place at a cell's first round. -/
def place (k : RC) : sProp 𝕄 := atPos ER (cell c k) 0 ∅ 0

/-- What a device has for its peer `j` when the body starts: the duties, its places and credits, the slots; -/
def peerIn (j : Fin 3) : sProp 𝕄 :=
  iprop(meet c j ∗ rowToks c j ∗ partToks c j ∗ ticket c (.agR j) N ∗ ticket c (.prR j) N ∗ place c (.agS j) ∗ place c (.psS j) ∗ anyOf c (psSlot j.val j.isLt))
/-- and when it ends: the slots, and the counters at zero. -/
def peerOut (j : Fin 3) : sProp 𝕄 :=
  iprop(anyOf c (xSlot (j.val + 1) (by omega)) ∗ semVal (cell c (.agR j)) 0 ∗ closed c j)

/-- What the body works with and gives back as it was: its own memory, the slots of keys and values, the arrays. -/
def own : sProp 𝕄 :=
  iprop(anyOf c x0M ∗ anyOf c wqM ∗ anyOf c woM ∗ anyOf c obufM
    ∗ idle c 0 (by decide) ∗ idle c 1 (by decide) ∗ idle c 2 (by decide) ∗ arrays m c ∗ inputs m ρ c)

theorem wp_body (Kt : PUnit → sProp 𝕄) :
    iprop(levAts L lv ∗ records m ρ K ∗ owed c (O₀ c) ∗ ticket c .bar 3 ∗ peerIn c 0 ∗ peerIn c 1 ∗ peerIn c 2 ∗ own m ρ c ∗ anyOf c outM
        ∗ (owed c 0 -∗ semVal (cell c .bar) 0 -∗ peerOut c 0 -∗ peerOut c 1 -∗ peerOut c 2 -∗ own m ρ c -∗ ownsTc c outM fullShare (outAt m ρ c) -∗ Kt ⟨⟩))
      ⊢ 𝕎[c] (body c) Kt := by
  unfold body peerIn peerOut own
  simp only [wp_bind]
  iintro ⟨#Hlev, #HR, HO, Htb, ⟨Hm0, Hr0, Hp0, Ha0, Hb0, Hc0, Hd0, Hs0⟩, ⟨Hm1, Hr1, Hp1, Ha1, Hb1, Hc1, Hd1, Hs1⟩, ⟨Hm2, Hr2, Hp2, Ha2, Hb2, Hc2, Hd2, Hs2⟩,
    ⟨Hx0, Hwq, Hwo, HB, Hi0, Hi1, Hi2, HA, Hin⟩, Hout, Hk⟩
  iapply (wp_prologue m ρ K c)
  isplitr; · iexact Hlev
  isplitr; · iexact HR
  isplitl [HO]; · iexact HO
  isplitl [Htb]; · iexact Htb
  isplitl [Hm0]; · iexact Hm0
  isplitl [Hm1]; · iexact Hm1
  isplitl [Hm2]; · iexact Hm2
  isplitl [Hr0]; · iexact Hr0
  isplitl [Hr1]; · iexact Hr1
  isplitl [Hr2]; · iexact Hr2
  isplitl [Hin]; · iexact Hin
  isplitl [Hx0]; · iexact Hx0
  isplitl [Hwq]; · iexact Hwq
  isplitl [Hwo]; · iexact Hwo
  isplitl [Hi0]; · iexact Hi0
  isplitl [Hi1]; · iexact Hi1
  isplitl [Hi2]; · iexact Hi2
  isplitl [HA]; · iexact HA
  iintro HO Hsb ⟨Hm0, Hm1, Hm2⟩ ⟨Hr0, Hr1, Hr2⟩ Hin Hx0 Hw ⟨Hi0, Hi1, Hi2⟩ HA
  iapply (wp_stage0 m ρ c)
  isplitr; · iexact Hlev
  isplitl [HO]; · iexact HO
  isplitl [HB]; · iexact HB
  isplitl [HA]; · iexact HA
  isplitl [Hw]; · iexact Hw
  isplitl [Hx0]; · iexact Hx0
  isplitl [Hi0]; · iexact Hi0
  isplitl [Hi1]; · iexact Hi1
  isplitl [Hi2]; · iexact Hi2
  iintro HO HB HA Hw Hx0 Hi1 Hi2 Hi0
  iapply (wp_stage1 m ρ K c)
  isplitr; · iexact Hlev
  isplitr; · iexact HR
  isplitl [HO HB HA Hw Ha0 Hs0 Hp0 Hm0]
  · unfold stageIn
    isplitl [Ha0]; · iexact Ha0
    isplitl [HO]; · iexact HO
    isplitl [HB]; · iexact HB
    isplitl [HA]; · iexact HA
    isplitl [Hw]; · iexact Hw
    isplitl [Hs0]; · iexact Hs0
    isplitl [Hp0]; · iexact Hp0
    iexact Hm0
  isplitl [Hi1]; · iexact Hi1
  isplitl [Hi2]; · iexact Hi2
  isplitl [Hi0]; · iexact Hi0
  unfold stageOut
  iintro ⟨HO, HB, HA, Hw, Hx1, Ha0, Hp0⟩ Hi2 Hi0 Hi1
  iapply (wp_stage2 m ρ K c)
  isplitr; · iexact Hlev
  isplitr; · iexact HR
  isplitl [HO HB HA Hw Ha1 Hs1 Hp1 Hm1]
  · unfold stageIn
    isplitl [Ha1]; · iexact Ha1
    isplitl [HO]; · iexact HO
    isplitl [HB]; · iexact HB
    isplitl [HA]; · iexact HA
    isplitl [Hw]; · iexact Hw
    isplitl [Hs1]; · iexact Hs1
    isplitl [Hp1]; · iexact Hp1
    iexact Hm1
  isplitl [Hi2]; · iexact Hi2
  isplitl [Hi0]; · iexact Hi0
  isplitl [Hi1]; · iexact Hi1
  unfold stageOut
  iintro ⟨HO, HB, HA, Hw, Hx2, Ha1, Hp1⟩ Hi0 Hi1 Hi2
  iapply (wp_stage3 m ρ K c)
  isplitr; · iexact Hlev
  isplitr; · iexact HR
  isplitl [HO HB HA Hw Ha2 Hs2 Hp2 Hm2]
  · unfold stageIn
    isplitl [Ha2]; · iexact Ha2
    isplitl [HO]; · iexact HO
    isplitl [HB]; · iexact HB
    isplitl [HA]; · iexact HA
    isplitl [Hw]; · iexact Hw
    isplitl [Hs2]; · iexact Hs2
    isplitl [Hp2]; · iexact Hp2
    iexact Hm2
  isplitl [Hi0]; · iexact Hi0
  isplitl [Hi1]; · iexact Hi1
  isplitl [Hi2]; · iexact Hi2
  unfold stageOut
  iintro ⟨HO, HB, HA, Hw, Hx3, Ha2, Hp2⟩ Hi0 Hi1 Hi2
  iapply (wp_epilogue m ρ K c)
  isplitr; · iexact Hlev
  isplitr; · iexact HR
  isplitl [HO]; · iexact HO
  unfold closing ticket place
  isplitl [Hb0 Hc0 Hr0 Hd0 Hp0]
  · isplitl [Hb0]; · iexact Hb0
    isplitl [Hc0 Hr0]
    · isplitl [Hc0]; · iexact Hc0
      iexact Hr0
    · isplitl [Hd0]; · iexact Hd0
      iexact Hp0
  isplitl [Hb1 Hc1 Hr1 Hd1 Hp1]
  · isplitl [Hb1]; · iexact Hb1
    isplitl [Hc1 Hr1]
    · isplitl [Hc1]; · iexact Hc1
      iexact Hr1
    · isplitl [Hd1]; · iexact Hd1
      iexact Hp1
  isplitl [Hb2 Hc2 Hr2 Hd2 Hp2]
  · isplitl [Hb2]; · iexact Hb2
    isplitl [Hc2 Hr2]
    · isplitl [Hc2]; · iexact Hc2
      iexact Hr2
    · isplitl [Hd2]; · iexact Hd2
      iexact Hp2
  isplitl [Hx0]; · iexact Hx0
  isplitl [Hout]; · iexact Hout
  iintro HO Hb0 Hb1 Hb2 Hx0 Hout
  unfold weights
  icases Hw with ⟨Hwq, Hwo⟩
  ihave HO := (show (owed c (OP3 c) : sProp 𝕄) ⊢ owed c 0 from Entails.rfl) $$ HO
  iapply Hk $$ HO Hsb [Hx1 Ha0 Hb0] [Hx2 Ha1 Hb1] [Hx3 Ha2 Hb2] [Hx0 Hwq Hwo HB Hi0 Hi1 Hi2 HA Hin] Hout
  · isplitl [Hx1]; · iexact Hx1
    isplitl [Ha0]; · iexact Ha0
    iexact Hb0
  · isplitl [Hx2]; · iexact Hx2
    isplitl [Ha1]; · iexact Ha1
    iexact Hb1
  · isplitl [Hx3]; · iexact Hx3
    isplitl [Ha2]; · iexact Ha2
    iexact Hb2
  · isplitl [Hx0]; · iexact Hx0
    isplitl [Hwq]; · iapply (anyOf_intro c wqM (WQB m ρ c)); iexact Hwq
    isplitl [Hwo]; · iapply (anyOf_intro c woM (WOB m ρ c)); iexact Hwo
    isplitl [HB]; · iexact HB
    isplitl [Hi0]; · iexact Hi0
    isplitl [Hi1]; · iexact Hi1
    isplitl [Hi2]; · iexact Hi2
    isplitl [HA]; · iexact HA
    iexact Hin

end Parts

end Cert.Attn
-- ==== Proof.Slots.lean ====
/-
# Buffers cut into slots

A buffer a launch hands over whole is used slot by slot. Here it is cut into the slots and what lies outside them,
and put together again, its contents being whatever they are.
-/
module

public import proofs.«01_k».proof.Proof.Body

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Cut
variable (c : Dev nD) {cs : CoreSpace} {sh : Shape} {e : EltTy} (M : Memref sig .tc cs sh e)

/-- Elements of a buffer, at any contents. -/
def scrap (S : Finset (Idx (M.view.loc (c : Thread nD τ)))) : sProp 𝕄 :=
  iprop(∃ f : Buf (Elt F) (M.view.loc (c : Thread nD τ)), (M.view.loc (c : Thread nD τ)) ↦[S]{fullShare} f)

variable {s' : Shape} (r : Rect sh) (hr : ∀ a, r.stride a = 1) (hq : r.shape.Squeezes s')

theorem carve {S : Finset (Idx (M.view.loc (c : Thread nD τ)))} (h : (M.access r).set ⊆ S) :
    (scrap c M S : sProp 𝕄) ⊢ iprop(anyOf c ((M.slice r hr).squeeze s' hq) ∗ scrap c M (S \ (M.access r).set)) := by
  unfold scrap anyOf ownsTc owns
  rw [slot_set]
  iintro ⟨%f, H⟩
  ihave H := (pointsTo_split_subset h).1 $$ H
  icases H with ⟨H1, H2⟩
  isplitl [H1]
  · iexists _; iexists f
    isplitr; · ipureintro; rfl
    iexact H1
  · iexists f; iexact H2

theorem uncarve {S : Finset (Idx (M.view.loc (c : Thread nD τ)))} (h : (M.access r).set ⊆ S) :
    iprop(anyOf c ((M.slice r hr).squeeze s' hq) ∗ scrap c M (S \ (M.access r).set)) ⊢ (scrap c M S : sProp 𝕄) := by
  unfold scrap anyOf ownsTc owns
  rw [slot_set]
  iintro ⟨⟨%X, %f, %hf, H1⟩, ⟨%g, H2⟩⟩
  iexists _
  iapply (pointsTo_join_subset h)
  isplitl [H1]
  · iexact H1
  · iexact H2

/-- A slot cut out, as one equation. -/
theorem carved {S : Finset (Idx (M.view.loc (c : Thread nD τ)))} (h : (M.access r).set ⊆ S) :
    (scrap c M S : sProp 𝕄) = iprop(anyOf c ((M.slice r hr).squeeze s' hq) ∗ scrap c M (S \ (M.access r).set)) :=
  Entails.antisymm (carve c M r hr hq h) (uncarve c M r hr hq h)

end Cut

section Family
variable (c : Dev nD) {cs : CoreSpace} {sh s' : Shape} {e : EltTy} (M : Memref sig .tc cs sh e) {n : ℕ} (r : Fin n → Rect sh)
  (hr : ∀ i a, (r i).stride a = 1) (hq : ∀ i, (r i).shape.Squeezes s')

/-- What lies outside all slots. -/
def outside : Finset (Idx (M.view.loc (c : Thread nD τ))) := Finset.univ \ Finset.univ.biUnion fun i => (M.access (r i)).set

theorem carvedAll (hd : ∀ i j, i ≠ j → Disjoint (M.access (r i)).set (M.access (r j)).set) :
    (scrap c M Finset.univ : sProp 𝕄)
      = iprop((bigSep Finset.univ fun i => anyOf c ((M.slice (r i) (hr i)).squeeze s' (hq i))) ∗ scrap c M (outside c M r)) := by
  have key : ∀ (T : Finset (Fin n)) (S : Finset (Idx (M.view.loc (c : Thread nD τ)))), (∀ i ∈ T, (M.access (r i)).set ⊆ S) →
      (scrap c M S : sProp 𝕄) = iprop((bigSep T fun i => anyOf c ((M.slice (r i) (hr i)).squeeze s' (hq i)))
        ∗ scrap c M (S \ T.biUnion fun i => (M.access (r i)).set)) := by
    intro T
    induction T using Finset.induction_on with
    | empty =>
      intro S _
      rw [bigSep_empty, Finset.biUnion_empty, Finset.sdiff_empty]
      exact Entails.antisymm emp_sep.2 emp_sep.1
    | insert a T ha ih =>
      intro S hS
      rw [bigSep_insert ha, carved c M (r a) (hr a) (hq a) (hS a (Finset.mem_insert_self a T)),
        ih (S \ (M.access (r a)).set) fun i hi => Finset.subset_sdiff.2 ⟨hS i (Finset.mem_insert_of_mem hi), hd i a fun h => ha (h ▸ hi)⟩,
        Finset.biUnion_insert, sdiff_sdiff_left]
      exact BI.Entails.antisymm Idealize.SL.BI.sep_assoc' Idealize.SL.BI.sep_assoc
  exact key Finset.univ Finset.univ fun i _ => Finset.subset_univ _

end Family

/-! ## The five buffers -/

theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

abbrev cut4 (i : Fin 4) : Rect S4x256x1024 := Rect.unit (s := S4x256x1024) ![i.val, 0, 0] S1x256x1024.size (inb4 i.val i.isLt)
abbrev cut3 (i : Fin 3) : Rect S3x256x1024 := Rect.unit (s := S3x256x1024) ![i.val, 0, 0] S1x256x1024.size (inb3 i.val i.isLt)
abbrev cutKV (i : Fin 3) : Rect S3x4096x256 := Rect.unit (s := S3x4096x256) ![i.val, 0, 0] S1x4096x256.size (inbKV i.val i.isLt)

theorem ne_sides {n : ℕ} {i j : Fin n} (h : i ≠ j) : i.val + 1 ≤ j.val ∨ j.val + 1 ≤ i.val := by
  have : i.val ≠ j.val := fun e => h (Fin.ext e)
  omega

theorem apart {cs : CoreSpace} {sh : Shape} {e : EltTy} (v : View sig .tc cs sh e) (r r' : Rect sh) (h : Disjoint r.set r'.set) :
    Disjoint (v.slice r).set (v.slice r').set := by
  rw [View.set_slice, View.set_slice]
  exact (Finset.disjoint_map _).2 h
theorem apart4 (M : Memref sig .tc .vmem S4x256x1024 .bf16) (i j : Fin 4) (h : i ≠ j) : Disjoint (M.access (cut4 i)).set (M.access (cut4 j)).set :=
  apart M.view _ _ (Rect.unit_disjoint (0 : Fin 3) (ne_sides h))
theorem apart3 (M : Memref sig .tc .vmem S3x256x1024 .bf16) (i j : Fin 3) (h : i ≠ j) : Disjoint (M.access (cut3 i)).set (M.access (cut3 j)).set :=
  apart M.view _ _ (Rect.unit_disjoint (0 : Fin 3) (ne_sides h))
theorem apartKV (M : Memref sig .tc .vmem S3x4096x256 .f32) (i j : Fin 3) (h : i ≠ j) : Disjoint (M.access (cutKV i)).set (M.access (cutKV j)).set :=
  apart M.view _ _ (Rect.unit_disjoint (0 : Fin 3) (ne_sides h))

section Buffers
variable (c : Dev nD)

/-- What lies outside the slots of the five buffers. -/
def trims : sProp 𝕄 :=
  iprop(scrap c xallM (outside c xallM cut4) ∗ scrap c kbufM (outside c kbufM cutKV) ∗ scrap c vbufM (outside c vbufM cutKV)
    ∗ scrap c psM (outside c psM cut3) ∗ scrap c prM (outside c prM cut4))

theorem rows_cut (M : Memref sig .tc .vmem S4x256x1024 .bf16) : (scrap c M Finset.univ : sProp 𝕄)
    = iprop((anyOf c ((M.slice (cut4 0) (fun _ => rfl)).squeeze S256x1024 squeezes_S1x256x1024_S256x1024)
        ∗ anyOf c ((M.slice (cut4 1) (fun _ => rfl)).squeeze S256x1024 squeezes_S1x256x1024_S256x1024)
        ∗ anyOf c ((M.slice (cut4 2) (fun _ => rfl)).squeeze S256x1024 squeezes_S1x256x1024_S256x1024)
        ∗ anyOf c ((M.slice (cut4 3) (fun _ => rfl)).squeeze S256x1024 squeezes_S1x256x1024_S256x1024)) ∗ scrap c M (outside c M cut4)) := by
  rw [carvedAll c M cut4 (fun _ _ => rfl) (fun _ => squeezes_S1x256x1024_S256x1024) (apart4 M), bigSep_four]
theorem parts_cut (M : Memref sig .tc .vmem S3x256x1024 .bf16) : (scrap c M Finset.univ : sProp 𝕄)
    = iprop((anyOf c ((M.slice (cut3 0) (fun _ => rfl)).squeeze S256x1024 squeezes_S1x256x1024_S256x1024)
        ∗ anyOf c ((M.slice (cut3 1) (fun _ => rfl)).squeeze S256x1024 squeezes_S1x256x1024_S256x1024)
        ∗ anyOf c ((M.slice (cut3 2) (fun _ => rfl)).squeeze S256x1024 squeezes_S1x256x1024_S256x1024)) ∗ scrap c M (outside c M cut3)) := by
  rw [carvedAll c M cut3 (fun _ _ => rfl) (fun _ => squeezes_S1x256x1024_S256x1024) (apart3 M), bigSep_three]
theorem chunks_cut (M : Memref sig .tc .vmem S3x4096x256 .f32) : (scrap c M Finset.univ : sProp 𝕄)
    = iprop((anyOf c ((M.slice (cutKV 0) (fun _ => rfl)).squeeze S4096x256 squeezes_S1x4096x256_S4096x256)
        ∗ anyOf c ((M.slice (cutKV 1) (fun _ => rfl)).squeeze S4096x256 squeezes_S1x4096x256_S4096x256)
        ∗ anyOf c ((M.slice (cutKV 2) (fun _ => rfl)).squeeze S4096x256 squeezes_S1x4096x256_S4096x256)) ∗ scrap c M (outside c M cutKV)) := by
  rw [carvedAll c M cutKV (fun _ _ => rfl) (fun _ => squeezes_S1x4096x256_S4096x256) (apartKV M), bigSep_three]

/-- A buffer used whole. -/
theorem whole_any (b : Ref sig .tc) : (iprop(∃ f : Buf (Elt F) ((c : Thread nD τ).loc b), ((c : Thread nD τ).loc b) ↦{fullShare} f) : sProp 𝕄)
    = anyOf c (Memref.whole b) := by
  unfold anyOf ownsTc
  simp only [owns_whole]

/-- The slots and buffers a launch hands a device, cut as the body uses them. -/
def slots : sProp 𝕄 :=
  iprop((anyOf c x0M ∗ anyOf c (xSlot 1 (by decide)) ∗ anyOf c (xSlot 2 (by decide)) ∗ anyOf c (xSlot 3 (by decide)))
    ∗ anyOf c wqM ∗ anyOf c woM
    ∗ (anyOf c (kvSlot kbufM 0 (by decide)) ∗ anyOf c (kvSlot kbufM 1 (by decide)) ∗ anyOf c (kvSlot kbufM 2 (by decide)))
    ∗ (anyOf c (kvSlot vbufM 0 (by decide)) ∗ anyOf c (kvSlot vbufM 1 (by decide)) ∗ anyOf c (kvSlot vbufM 2 (by decide)))
    ∗ anyOf c obufM
    ∗ (anyOf c (psSlot 0 (by decide)) ∗ anyOf c (psSlot 1 (by decide)) ∗ anyOf c (psSlot 2 (by decide)))
    ∗ (anyOf c (prSlot 0 (by decide)) ∗ anyOf c (prSlot 1 (by decide)) ∗ anyOf c (prSlot 2 (by decide)) ∗ anyOf c (prSlot 3 (by decide))))

theorem scratch_eq : (Pipeline.scopedRest (Ix := Unit) (Name := ℕ) (U := UU) (Lvl := ℕ) (Val := Elt F) spec0 c : sProp 𝕄)
    = iprop(scrap c xallM Finset.univ
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ scrap c kbufM Finset.univ ∗ scrap c vbufM Finset.univ
      ∗ (∃ f : Buf (Elt F) ((c : Thread nD τ).loc cc0_scratch5), ((c : Thread nD τ).loc cc0_scratch5) ↦{fullShare} f)
      ∗ scrap c psM Finset.univ ∗ scrap c prM Finset.univ) :=
  scopedRest0_eq c

theorem scratch_cut : (Pipeline.scopedRest (Ix := Unit) (Name := ℕ) (U := UU) (Lvl := ℕ) (Val := Elt F) spec0 c : sProp 𝕄)
    ⊢ iprop(slots c ∗ trims c) := by
  rw [scratch_eq, whole_any c cc0_scratch1, whole_any c cc0_scratch2, whole_any c cc0_scratch5]
  unfold slots trims
  iintro ⟨H0, H1, H2, H3, H4, H5, H6, H7⟩
  ihave H0 := (Entails.of_eq (rows_cut c xallM)) $$ H0
  ihave H3 := (Entails.of_eq (chunks_cut c kbufM)) $$ H3
  ihave H4 := (Entails.of_eq (chunks_cut c vbufM)) $$ H4
  ihave H6 := (Entails.of_eq (parts_cut c psM)) $$ H6
  ihave H7 := (Entails.of_eq (rows_cut c prM)) $$ H7
  icases H0 with ⟨H0, T0⟩
  icases H3 with ⟨H3, T3⟩
  icases H4 with ⟨H4, T4⟩
  icases H6 with ⟨H6, T6⟩
  icases H7 with ⟨H7, T7⟩
  isplitr [T0 T3 T4 T6 T7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · isplitl [T0]; · iexact T0
    isplitl [T3]; · iexact T3
    isplitl [T4]; · iexact T4
    isplitl [T6]; · iexact T6
    iexact T7

theorem scratch_join : iprop(slots c ∗ trims c)
    ⊢ (Pipeline.scopedRest (Ix := Unit) (Name := ℕ) (U := UU) (Lvl := ℕ) (Val := Elt F) spec0 c : sProp 𝕄) := by
  rw [scratch_eq, whole_any c cc0_scratch1, whole_any c cc0_scratch2, whole_any c cc0_scratch5]
  unfold slots trims
  iintro ⟨⟨H0, H1, H2, H3, H4, H5, H6, H7⟩, T0, T3, T4, T6, T7⟩
  ihave H0 := (Entails.of_eq (rows_cut c xallM).symm) $$ [H0 T0]
  · isplitl [H0]; · iexact H0
    iexact T0
  ihave H3 := (Entails.of_eq (chunks_cut c kbufM).symm) $$ [H3 T3]
  · isplitl [H3]; · iexact H3
    iexact T3
  ihave H4 := (Entails.of_eq (chunks_cut c vbufM).symm) $$ [H4 T4]
  · isplitl [H4]; · iexact H4
    iexact T4
  ihave H6 := (Entails.of_eq (parts_cut c psM).symm) $$ [H6 T6]
  · isplitl [H6]; · iexact H6
    iexact T6
  ihave H7 := (Entails.of_eq (rows_cut c prM).symm) $$ [H7 T7]
  · isplitl [H7]; · iexact H7
    iexact T7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Buffers

end Cert.Attn

end
-- ==== Proof.Deal.lean ====
/-
# What the launch deals each device

The launch starts every cell of the protocol at once and deals the duties' tokens around the ring: a token goes to the
device that pays its duty. A device's credits are what its peers owe it.
-/
module

public import proofs.«01_k».proof.Proof.Slots

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores. -/
abbrev osem : Fin 20 → SemLoc sig := fun k => .dma (⟨k.val + 4, Nat.add_lt_add_right k.isLt 4⟩ : Fin 24)

theorem ownSemFacts : Pipeline.OwnSemFacts cfg0.spec osem := by decide

theorem bigSep_RC (Φ : RC → sProp 𝕄) : bigSep Finset.univ Φ
    = iprop(Φ .bar ∗ Φ (.agS 0) ∗ Φ (.agS 1) ∗ Φ (.agS 2) ∗ Φ (.agR 0) ∗ Φ (.agR 1) ∗ Φ (.agR 2)
        ∗ Φ (.psS 0) ∗ Φ (.psS 1) ∗ Φ (.psS 2) ∗ Φ (.prR 0) ∗ Φ (.prR 1) ∗ Φ (.prR 2)) :=
  bigSep_univ_eq_bigSepL allRC (by decide) (by decide) Φ

section Dev
variable (c : Dev nD)

/-- The counters of the two semaphores nothing uses, at zero, -/
def unused : sProp 𝕄 :=
  iprop(semVal ((c : Thread nD τ), .dma (agRecvSem 0 (by decide))) 0 ∗ semVal ((c : Thread nD τ), .dma (prRecvSem 0 (by decide))) 0)
/-- and of the two of a slot of keys and values. -/
def kvCounters (s : ℕ) (hs : s < 3) : sProp 𝕄 :=
  iprop(semVal ((c : Thread nD τ), .dma (kvSem s 0 hs Nat.zero_lt_two)) 0 ∗ semVal ((c : Thread nD τ), .dma (kvSem s 1 hs Nat.one_lt_two)) 0)
/-- The counters that belong to no cell of the protocol. -/
def spare : sProp 𝕄 := iprop(unused c ∗ kvCounters c 0 (by decide) ∗ kvCounters c 1 (by decide) ∗ kvCounters c 2 (by decide))
/-- The counters of the protocol's cells. -/
def counters : sProp 𝕄 := bigSep Finset.univ fun k : RC => semVal (cell c k) 0

theorem ownSems_eq : (Pipeline.ownSems0 (Ix := Unit) (Name := ℕ) (U := UU) (Lvl := ℕ) (Val := Elt F) (τ := τ) osem c : sProp 𝕄)
    = iprop(semVal (cell c (.agS 0)) 0 ∗ semVal (cell c (.agS 1)) 0 ∗ semVal (cell c (.agS 2)) 0
      ∗ semVal ((c : Thread nD τ), .dma (agRecvSem 0 (by decide))) 0
      ∗ semVal (cell c (.agR 0)) 0 ∗ semVal (cell c (.agR 1)) 0 ∗ semVal (cell c (.agR 2)) 0
      ∗ semVal (cell c (.psS 0)) 0 ∗ semVal (cell c (.psS 1)) 0 ∗ semVal (cell c (.psS 2)) 0
      ∗ semVal ((c : Thread nD τ), .dma (prRecvSem 0 (by decide))) 0
      ∗ semVal (cell c (.prR 0)) 0 ∗ semVal (cell c (.prR 1)) 0 ∗ semVal (cell c (.prR 2)) 0
      ∗ semVal ((c : Thread nD τ), .dma (kvSem 0 0 (by decide) Nat.zero_lt_two)) 0 ∗ semVal ((c : Thread nD τ), .dma (kvSem 0 1 (by decide) Nat.one_lt_two)) 0
      ∗ semVal ((c : Thread nD τ), .dma (kvSem 1 0 (by decide) Nat.zero_lt_two)) 0 ∗ semVal ((c : Thread nD τ), .dma (kvSem 1 1 (by decide) Nat.one_lt_two)) 0
      ∗ semVal ((c : Thread nD τ), .dma (kvSem 2 0 (by decide) Nat.zero_lt_two)) 0 ∗ semVal ((c : Thread nD τ), .dma (kvSem 2 1 (by decide) Nat.one_lt_two)) 0) := by
  rw [Pipeline.ownSems0_eq_of_list c osem [0, 1, 2, 3, 4, 5, 6, 7, 8, 9, 10, 11, 12, 13, 14, 15, 16, 17, 18, 19] (by decide) (by decide)]; rfl

theorem unscopedSems_eq : (unscopedSems0 c : sProp 𝕄) = semVal (cell c .bar) 0 := by
  unfold unscopedSems0; rw [bigSep_eq_bigSepL_of_eq [SemLoc.reg barSem] (by decide) (by decide)]; rfl

theorem sems_deal : iprop(Pipeline.ownSems0 (Ix := Unit) (Name := ℕ) (U := UU) (Lvl := ℕ) (Val := Elt F) (τ := τ) osem c ∗ unscopedSems0 c)
    ⊢ (iprop(counters c ∗ spare c) : sProp 𝕄) := by
  unfold counters spare unused kvCounters
  rw [ownSems_eq, unscopedSems_eq, bigSep_RC]
  iintro ⟨⟨A0, A1, A2, A3, R0, R1, R2, P0, P1, P2, Q3, Q0, Q1, Q2, K0, K1, K2, K3, K4, K5⟩, B⟩
  isplitr [A3 Q3 K0 K1 K2 K3 K4 K5]
  · isplitl [B]; · iexact B
    isplitl [A0]; · iexact A0
    isplitl [A1]; · iexact A1
    isplitl [A2]; · iexact A2
    isplitl [R0]; · iexact R0
    isplitl [R1]; · iexact R1
    isplitl [R2]; · iexact R2
    isplitl [P0]; · iexact P0
    isplitl [P1]; · iexact P1
    isplitl [P2]; · iexact P2
    isplitl [Q0]; · iexact Q0
    isplitl [Q1]; · iexact Q1
    iexact Q2
  · isplitl [A3 Q3]
    · isplitl [A3]; · iexact A3
      iexact Q3
    isplitl [K0 K1]
    · isplitl [K0]; · iexact K0
      iexact K1
    isplitl [K2 K3]
    · isplitl [K2]; · iexact K2
      iexact K3
    isplitl [K4]; · iexact K4
    iexact K5

theorem sems_join : (iprop(counters c ∗ spare c) : sProp 𝕄)
    ⊢ iprop(unscopedSems0 c ∗ Pipeline.ownSems0 (Ix := Unit) (Name := ℕ) (U := UU) (Lvl := ℕ) (Val := Elt F) (τ := τ) osem c) := by
  unfold counters spare unused kvCounters
  rw [ownSems_eq, unscopedSems_eq, bigSep_RC]
  iintro ⟨⟨B, A0, A1, A2, R0, R1, R2, P0, P1, P2, Q0, Q1, Q2⟩, ⟨A3, Q3⟩, ⟨K0, K1⟩, ⟨K2, K3⟩, ⟨K4, K5⟩⟩
  isplitl [B]; · iexact B
  isplitl [A0]; · iexact A0
  isplitl [A1]; · iexact A1
  isplitl [A2]; · iexact A2
  isplitl [A3]; · iexact A3
  isplitl [R0]; · iexact R0
  isplitl [R1]; · iexact R1
  isplitl [R2]; · iexact R2
  isplitl [P0]; · iexact P0
  isplitl [P1]; · iexact P1
  isplitl [P2]; · iexact P2
  isplitl [Q3]; · iexact Q3
  isplitl [Q0]; · iexact Q0
  isplitl [Q1]; · iexact Q1
  isplitl [Q2]; · iexact Q2
  isplitl [K0]; · iexact K0
  isplitl [K1]; · iexact K1
  isplitl [K2]; · iexact K2
  isplitl [K3]; · iexact K3
  isplitl [K4]; · iexact K4
  iexact K5

end Dev

/-! ## The launch element -/

def protoCells : Finset (GSem nD τ sig) := Finset.univ.map ⟨kcell, kcell_injective⟩

/-- The five duties with index `i`: a cell and which duty of it. -/
def dutyKey (x : Fin 3 × Fin 5) : RC × Fin 3 := match x.2 with
  | 0 => (.bar, x.1) | 1 => (.agS x.1, 0) | 2 => (.agR x.1, 0) | 3 => (.psS x.1, 0) | 4 => (.prR x.1, 0)
theorem dutyKey_injective : Function.Injective dutyKey := by
  have h : ∀ i i' : Fin 3, ∀ a a' : Fin 5, dutyKey (i, a) = dutyKey (i', a') → i = i' ∧ a = a' := by decide
  rintro ⟨i, a⟩ ⟨i', a'⟩ e
  obtain ⟨h1, h2⟩ := h i i' a a' e
  rw [h1, h2]

def tokOf (x : Dev nD × (Fin 3 × Fin 5)) : GSem nD τ sig × ℕ × Fin 3 := (cell x.1 (dutyKey x.2).1, 0, (dutyKey x.2).2)
theorem tokOf_injective : Function.Injective tokOf := by
  rintro ⟨c, x⟩ ⟨c', x'⟩ h
  have h1 : (c, (dutyKey x).1) = (c', (dutyKey x').1) := kcell_injective (congrArg (fun y : GSem nD τ sig × ℕ × Fin 3 => y.1) h)
  have h2 : (dutyKey x).2 = (dutyKey x').2 := congrArg (fun y : GSem nD τ sig × ℕ × Fin 3 => y.2.2) h
  have hc : c = c' := congrArg Prod.fst h1
  have hx : x = x' := dutyKey_injective (Prod.ext (congrArg Prod.snd h1) h2)
  rw [hc, hx]
def protoToks : Finset (GSem nD τ sig × ℕ × Fin 3) := Finset.univ.map ⟨tokOf, tokOf_injective⟩

def u₀ : UU :=
  (initOf (Pipeline.cells cfgs cellOf_inj) (Pipeline.launchToks cfgs cellOf_inj), (initOf protoCells protoToks, (1 : Counters)))

/-- The tokens of device `c`'s own cells, -/
def ownToks (c : Dev nD) (i : Fin 3) : sProp 𝕄 :=
  iprop(dutyTok ER (cell c .bar) 0 i ∗ dutyTok ER (cell c (.agS i)) 0 0 ∗ dutyTok ER (cell c (.agR i)) 0 0
    ∗ dutyTok ER (cell c (.psS i)) 0 0 ∗ dutyTok ER (cell c (.prR i)) 0 0)
def toks (c : Dev nD) : sProp 𝕄 := bigSep Finset.univ fun i : Fin 3 => ownToks c i
/-- and of the duties it pays. -/
def paid (c : Dev nD) (j : Fin 3) : sProp 𝕄 := iprop(dutyTok ER (cell (up c j) .bar) 0 j ∗ rowToks c j ∗ partToks c j)
def payToks (c : Dev nD) : sProp 𝕄 := bigSep Finset.univ fun j : Fin 3 => paid c j

/-- What the launch element holds for device `c`. -/
def G (c : Dev nD) : sProp 𝕄 :=
  iprop((bigSep Finset.univ fun k : RC => roundState ER (rd m ρ) (kcell (c, k)) 0)
    ∗ (bigSep Finset.univ fun k : RC => iprop(atPos ER (kcell (c, k)) 0 ∅ 0 ∗ reached ER (kcell (c, k)) 0)) ∗ toks c)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem launch_split (a : UR sig nD τ) (b : UB) : (ownU ((a, (b, (1 : Counters))) : UU) : sProp 𝕄) ⊢ iprop(BI.own (EP a) ∗ BI.own (ER b)) :=
  (ownU_pair a (b, (1 : Counters))).trans (sep_mono_right (Entails.of_eq rfl))

theorem fund : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : RC => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks; rw [bigSep_univ_prod]
      exact bigSep_congr fun i _ => by unfold ownToks; rw [bigSep_five]; rfl
  iintro HX
  imod (Rounds.fund ER (rd m ρ) protoCells protoToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The tokens around the ring -/

theorem around (Φ : Dev nD → Fin 3 → sProp 𝕄) :
    (bigSep Finset.univ fun c : Dev nD => bigSep Finset.univ fun i : Fin 3 => Φ c i)
      = bigSep Finset.univ fun c : Dev nD => bigSep Finset.univ fun j : Fin 3 => Φ (up c j) j := by
  simp only [bigSep_three, bigSep_sep']
  have h (j : Fin 3) : (bigSep Finset.univ fun c : Dev nD => Φ c j) = bigSep Finset.univ fun c : Dev nD => Φ (up c j) j :=
    bigSep_univ_equiv (turn j) fun c => Φ c j
  rw [h 0, h 1, h 2]
theorem around_rev (Φ : Dev nD → Fin 3 → sProp 𝕄) :
    (bigSep Finset.univ fun c : Dev nD => bigSep Finset.univ fun i : Fin 3 => Φ c i)
      = bigSep Finset.univ fun c : Dev nD => bigSep Finset.univ fun j : Fin 3 => Φ (up c j) j.rev :=
  (bigSep_congr fun c _ => bigSep_univ_equiv Fin.revPerm fun i => Φ c i).trans (around fun c i => Φ c i.rev)

theorem toks_around : (bigSep Finset.univ fun c : Dev nD => (toks c : sProp 𝕄)) ⊢ bigSep Finset.univ fun c : Dev nD => payToks c := by
  unfold toks payToks ownToks paid rowToks partToks
  simp only [bigSep_sep']
  rw [around fun (c : Dev nD) (i : Fin 3) => (dutyTok ER (cell c .bar) 0 i : sProp 𝕄),
    around_rev fun (c : Dev nD) (i : Fin 3) => (dutyTok ER (cell c (.agR i)) 0 0 : sProp 𝕄),
    around_rev fun (c : Dev nD) (i : Fin 3) => (dutyTok ER (cell c (.prR i)) 0 0 : sProp 𝕄)]
  iintro ⟨H0, H1, H2, H3, H4⟩
  isplitl [H0]; · iexact H0
  isplitl [H1 H2]
  · isplitl [H1]; · iexact H1
    iexact H2
  isplitl [H3]; · iexact H3
  iexact H4

/-! ## The cells started -/

/-- What stays with device `c`: its places, and the tokens it pays with. -/
def linear (c : Dev nD) : sProp 𝕄 := iprop((bigSep Finset.univ fun k : RC => place c k) ∗ payToks c)
/-- What the start of the cells makes of it. -/
def G' (c : Dev nD) : sProp 𝕄 := iprop((∃ K, records m ρ K ∗ linear c) ∗ spare c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ spare c) := by
  unfold G
  iintro ⟨Hos, Hus, Hst, Hat, Htok⟩
  ihave Hv := (sems_deal (F := F) c) $$ [Hos Hus]
  · isplitl [Hos]; · iexact Hos
    iexact Hus
  icases Hv with ⟨Hv, Hsp⟩
  imod (show iprop(counters c ∗ bigSep Finset.univ fun k : RC => roundState ER (rd m ρ) (kcell (c, k)) 0)
      ⊢ (|={Set.univ}=> bigSep Finset.univ fun k => iprop(∃ κ : ℕ, cellInv ER (rd m ρ) κ (kcell (c, k))) : sProp 𝕄) from by
        unfold counters
        rw [← bigSep_sep']
        exact (bigSep_mono fun k _ => (Rounds.body_intro ER (rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hsp

/-- A persistent fact given to each of a family. -/
theorem bigSep_give {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m ρ) := by
  rw [bigSep_sep', bigSep_sep', bigSep_sep', ← bigSep_univ_prod (fun ck : Dev nD × RC => iprop(∃ κ : ℕ, cellInv ER (rd m ρ) κ (kcell ck))),
    bigSep_congr (s := Finset.univ) (fun (c : Dev nD) _ => bigSep_sep' Finset.univ (fun k : RC => (atPos ER (kcell (c, k)) 0 ∅ 0 : sProp 𝕄)) (fun k => reached ER (kcell (c, k)) 0)),
    bigSep_sep', ← bigSep_univ_prod (fun ck : Dev nD × RC => (reached ER (kcell ck) 0 : sProp 𝕄))]
  iintro ⟨HI, ⟨Hat, #HR⟩, Htok, Hsp⟩
  ihave HK := (BI.bigSep_exists_pi Finset.univ (fun (ck : Dev nD × RC) (κ : ℕ) => (cellInv ER (rd m ρ) κ (kcell ck) : sProp 𝕄))) $$ HI
  icases HK with ⟨%K, #HI⟩
  ihave Htk := (toks_around (F := F)) $$ Htok
  iapply (bigSep_give (R := records m ρ K) (Φ := fun c : Dev nD => iprop(linear c ∗ spare c)) fun c _ => by
    unfold G'
    iintro ⟨#HR, Hl, Hs⟩
    isplitl [Hl]
    · iexists K
      isplitr; · iexact HR
      iexact Hl
    iexact Hs)
  isplitr
  · unfold records; isplitl; · iexact HI
    iexact HR
  · unfold linear place
    simp only [bigSep_sep']
    isplitl [Hat Htk]
    · isplitl [Hat]; · iexact Hat
      iexact Htk
    iexact Hsp

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

section Creds
variable (c : Dev nD)

/-- What every device owes the cell `k` of its peer `j` is a credit of each. -/
theorem credOne (j : Fin 3) (k : RC) (n : ℕ) :
    (Pipeline.launchCred (fun d : Dev nD => (tallyAt (cell (up d j) k) () n : CellTallies nD τ sig Unit)) c : sProp 𝕄) ⊢ cred (tallyAt (cell c k) () n) := by
  refine (Pipeline.launchCred_elim _ c (csem k)).trans (Entails.of_eq (congrArg cred ?_))
  unfold tallyAt
  refine congrArg _ (Finsupp.ext fun u => ?_)
  cases u
  rw [Pipeline.launchCredit_owing, Finsupp.single_eq_same, Fintype.sum_eq_single ((turn j).symm c)]
  · show tallyAt (cell (turn j ((turn j).symm c)) k) () n (cell c k) () = n
    rw [Equiv.apply_symm_apply, tallyAt_apply, if_pos ⟨rfl, rfl⟩]
  · intro d hd
    show tallyAt (cell (up d j) k) () n (cell c k) () = 0
    rw [tallyAt_apply, if_neg]
    rintro ⟨h, -⟩
    have h1 : c = up d j := congrArg Prod.fst (kcell_injective (show kcell (c, k) = kcell (up d j, k) from h))
    exact hd (((turn j).symm_apply_eq).2 h1).symm

def credits : sProp 𝕄 :=
  iprop(cred (tallyAt (cell c .bar) () 3)
    ∗ (cred (tallyAt (cell c (.agR 0)) () N) ∗ cred (tallyAt (cell c (.agR 1)) () N) ∗ cred (tallyAt (cell c (.agR 2)) () N))
    ∗ cred (tallyAt (cell c (.prR 0)) () N) ∗ cred (tallyAt (cell c (.prR 1)) () N) ∗ cred (tallyAt (cell c (.prR 2)) () N))

theorem creds : (Pipeline.launchCred O₀ c : sProp 𝕄) ⊢ credits c := by
  have step (O : Dev nD → CellTallies nD τ sig Unit) (D : Dev nD → CellTallies nD τ sig Unit) (P Q : sProp 𝕄)
      (hO : (Pipeline.launchCred O c : sProp 𝕄) ⊢ P) (hD : (Pipeline.launchCred D c : sProp 𝕄) ⊢ Q) :
      (Pipeline.launchCred (fun d => O d + D d) c : sProp 𝕄) ⊢ iprop(P ∗ Q) := by
    rw [Pipeline.launchCred_add]
    exact (sep_mono_left hO).trans (sep_mono_right hD)
  have h : (Pipeline.launchCred O₀ c : sProp 𝕄) ⊢ iprop(((((((((iprop(emp) ∗ cred (tallyAt (cell c (.prR 0)) () N)) ∗ cred (tallyAt (cell c (.prR 1)) () N))
      ∗ cred (tallyAt (cell c (.prR 2)) () N)) ∗ cred (tallyAt (cell c (.agR 0)) () N)) ∗ cred (tallyAt (cell c (.agR 1)) () N))
      ∗ cred (tallyAt (cell c (.agR 2)) () N)) ∗ cred (tallyAt (cell c .bar) () 1)) ∗ cred (tallyAt (cell c .bar) () 1)) ∗ cred (tallyAt (cell c .bar) () 1)) :=
    step OB1 (owedB · 0) _ _ (step OB2 (owedB · 1) _ _ (step OA0 (owedB · 2) _ _
      (step OA1 (owedA · 0) _ _ (step OA2 (owedA · 1) _ _ (step OP0 (owedA · 2) _ _
      (step OP1 (owedP · 0) _ _ (step OP2 (owedP · 1) _ _ (step OP3 (owedP · 2) _ _
        (Entails.of_eq (Pipeline.launchCred_zero c)) (credOne c 2 (.prR 0) N)) (credOne c 1 (.prR 1) N)) (credOne c 0 (.prR 2) N))
      (credOne c 2 (.agR 0) N)) (credOne c 1 (.agR 1) N)) (credOne c 0 (.agR 2) N))
      (credOne c 2 .bar 1)) (credOne c 1 .bar 1)) (credOne c 0 .bar 1)
  refine h.trans ?_
  unfold credits
  iintro ⟨⟨⟨⟨⟨⟨⟨⟨⟨-, P0⟩, P1⟩, P2⟩, A0⟩, A1⟩, A2⟩, B0⟩, B1⟩, B2⟩
  ihave B := (cred_add (tallyAt (cell c .bar) () 1) (tallyAt (cell c .bar) () 1)).2 $$ [B0 B1]
  · isplitl [B0]; · iexact B0
    iexact B1
  ihave B := (cred_add (tallyAt (cell c .bar) () 1 + tallyAt (cell c .bar) () 1) (tallyAt (cell c .bar) () 1)).2 $$ [B B2]
  · isplitl [B]; · iexact B
    iexact B2
  have e : (tallyAt (cell c .bar) () 1 + tallyAt (cell c .bar) () 1 + tallyAt (cell c .bar) () 1 : CellTallies nD τ sig Unit) = tallyAt (cell c .bar) () 3 := by
    rw [show (3 : ℕ) = 1 + 1 + 1 from rfl, tallyAt_add, tallyAt_add]
  isplitl [B]; · iapply (Entails.of_eq (congrArg cred e)); iexact B
  isplitl [A0 A1 A2]
  · isplitl [A0]; · iexact A0
    isplitl [A1]; · iexact A1
    iexact A2
  isplitl [P0]; · iexact P0
  isplitl [P1]; · iexact P1
  iexact P2

end Creds

end Cert.Attn

end
-- ==== Proof.Launch.lean ====
/-
# The run

Each device's body meets the launch's obligation, and the launch theorem gives the run of the whole program.
-/
module

public import proofs.«01_k».proof.Proof.Deal

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ
local notation "𝕎[" c "]" => wp (M := 𝕄) frame (wpE (defs₀ (F := F)) 𝒱₀ (Dev.tc c : Thread nD τ) none) Set.univ

variable (m : (ℓ : Loc nD τ sig) → Buf (Elt F) ℓ) (ρ : Dev nD → PrngReg)

/-! ## What a device has, arranged for its body -/

section Dev
variable (c : Dev nD)

/-- What the body does not touch. -/
def aside : sProp 𝕄 := iprop(anyOf c (prSlot 0 (by decide)) ∗ unused c)

theorem arrange :
    iprop(linear c ∗ credits c ∗ arrays m c ∗ spare c ∗ slots c ∗ inputs m ρ c)
      ⊢ (iprop(ticket c .bar 3 ∗ peerIn c 0 ∗ peerIn c 1 ∗ peerIn c 2 ∗ own m ρ c ∗ aside c) : sProp 𝕄) := by
  unfold linear payToks credits spare kvCounters slots aside
  rw [bigSep_RC, bigSep_three]
  unfold peerIn
  unfold paid ticket place meet own idle
  iintro ⟨⟨⟨B, A0, A1, A2, R0, R1, R2, P0, P1, P2, Q0, Q1, Q2⟩, ⟨M0, T0, U0⟩, ⟨M1, T1, U1⟩, M2, T2, U2⟩, ⟨CB, ⟨CR0, CR1, CR2⟩, CQ0, CQ1, CQ2⟩, HA,
    ⟨Hun, ⟨K0, V0⟩, ⟨K1, V1⟩, K2, V2⟩,
    ⟨⟨X0, X1, X2, X3⟩, WQ, WO, ⟨KB0, KB1, KB2⟩, ⟨VB0, VB1, VB2⟩, OBf, ⟨S0, S1, S2⟩, Y0, Y1, Y2, Y3⟩, Hin⟩
  isplitl [B CB]
  · isplitl [B]; · iexact B
    iexact CB
  isplitl [M0 T0 U0 X1 Y1 R0 CR0 Q0 CQ0 A0 P0 S0]
  · isplitl [M0 X1 Y1]
    · isplitl [M0]; · iexact M0
      isplitl [X1]; · iexact X1
      iexact Y1
    isplitl [T0]; · iexact T0
    isplitl [U0]; · iexact U0
    isplitl [R0 CR0]
    · isplitl [R0]; · iexact R0
      iexact CR0
    isplitl [Q0 CQ0]
    · isplitl [Q0]; · iexact Q0
      iexact CQ0
    isplitl [A0]; · iexact A0
    isplitl [P0]; · iexact P0
    iexact S0
  isplitl [M1 T1 U1 X2 Y2 R1 CR1 Q1 CQ1 A1 P1 S1]
  · isplitl [M1 X2 Y2]
    · isplitl [M1]; · iexact M1
      isplitl [X2]; · iexact X2
      iexact Y2
    isplitl [T1]; · iexact T1
    isplitl [U1]; · iexact U1
    isplitl [R1 CR1]
    · isplitl [R1]; · iexact R1
      iexact CR1
    isplitl [Q1 CQ1]
    · isplitl [Q1]; · iexact Q1
      iexact CQ1
    isplitl [A1]; · iexact A1
    isplitl [P1]; · iexact P1
    iexact S1
  isplitl [M2 T2 U2 X3 Y3 R2 CR2 Q2 CQ2 A2 P2 S2]
  · isplitl [M2 X3 Y3]
    · isplitl [M2]; · iexact M2
      isplitl [X3]; · iexact X3
      iexact Y3
    isplitl [T2]; · iexact T2
    isplitl [U2]; · iexact U2
    isplitl [R2 CR2]
    · isplitl [R2]; · iexact R2
      iexact CR2
    isplitl [Q2 CQ2]
    · isplitl [Q2]; · iexact Q2
      iexact CQ2
    isplitl [A2]; · iexact A2
    isplitl [P2]; · iexact P2
    iexact S2
  isplitr [Y0 Hun]
  · isplitl [X0]; · iexact X0
    isplitl [WQ]; · iexact WQ
    isplitl [WO]; · iexact WO
    isplitl [OBf]; · iexact OBf
    isplitl [KB0 VB0 K0 V0]
    · isplitl [KB0]; · iexact KB0
      isplitl [VB0]; · iexact VB0
      isplitl [K0]; · iexact K0
      iexact V0
    isplitl [KB1 VB1 K1 V1]
    · isplitl [KB1]; · iexact KB1
      isplitl [VB1]; · iexact VB1
      isplitl [K1]; · iexact K1
      iexact V1
    isplitl [KB2 VB2 K2 V2]
    · isplitl [KB2]; · iexact KB2
      isplitl [VB2]; · iexact VB2
      isplitl [K2]; · iexact K2
      iexact V2
    isplitl [HA]; · iexact HA
    iexact Hin
  isplitl [Y0]; · iexact Y0
  iexact Hun

theorem rearrange :
    (iprop(semVal (cell c .bar) 0 ∗ peerOut c 0 ∗ peerOut c 1 ∗ peerOut c 2 ∗ own m ρ c ∗ aside c) : sProp 𝕄)
      ⊢ iprop(slots c ∗ (counters c ∗ spare c) ∗ inputs m ρ c) := by
  unfold peerOut closed own idle aside slots counters spare kvCounters
  rw [bigSep_RC]
  iintro ⟨B, ⟨X1, R0, Y1, S0, Q0, A0, P0⟩, ⟨X2, R1, Y2, S1, Q1, A1, P1⟩, ⟨X3, R2, Y3, S2, Q2, A2, P2⟩,
    ⟨X0, WQ, WO, OBf, ⟨KB0, VB0, K0, V0⟩, ⟨KB1, VB1, K1, V1⟩, ⟨KB2, VB2, K2, V2⟩, -, Hin⟩, Y0, Hun⟩
  isplitl [X0 X1 X2 X3 WQ WO KB0 KB1 KB2 VB0 VB1 VB2 OBf S0 S1 S2 Y0 Y1 Y2 Y3]
  · isplitl [X0 X1 X2 X3]
    · isplitl [X0]; · iexact X0
      isplitl [X1]; · iexact X1
      isplitl [X2]; · iexact X2
      iexact X3
    isplitl [WQ]; · iexact WQ
    isplitl [WO]; · iexact WO
    isplitl [KB0 KB1 KB2]
    · isplitl [KB0]; · iexact KB0
      isplitl [KB1]; · iexact KB1
      iexact KB2
    isplitl [VB0 VB1 VB2]
    · isplitl [VB0]; · iexact VB0
      isplitl [VB1]; · iexact VB1
      iexact VB2
    isplitl [OBf]; · iexact OBf
    isplitl [S0 S1 S2]
    · isplitl [S0]; · iexact S0
      isplitl [S1]; · iexact S1
      iexact S2
    isplitl [Y0]; · iexact Y0
    isplitl [Y1]; · iexact Y1
    isplitl [Y2]; · iexact Y2
    iexact Y3
  isplitr [Hin]
  · isplitl [B A0 A1 A2 R0 R1 R2 P0 P1 P2 Q0 Q1 Q2]
    · isplitl [B]; · iexact B
      isplitl [A0]; · iexact A0
      isplitl [A1]; · iexact A1
      isplitl [A2]; · iexact A2
      isplitl [R0]; · iexact R0
      isplitl [R1]; · iexact R1
      isplitl [R2]; · iexact R2
      isplitl [P0]; · iexact P0
      isplitl [P1]; · iexact P1
      isplitl [P2]; · iexact P2
      isplitl [Q0]; · iexact Q0
      isplitl [Q1]; · iexact Q1
      iexact Q2
    isplitl [Hun]; · iexact Hun
    isplitl [K0 V0]
    · isplitl [K0]; · iexact K0
      iexact V0
    isplitl [K1 V1]
    · isplitl [K1]; · iexact K1
      iexact V1
    isplitl [K2]; · iexact K2
    iexact V2
  iexact Hin

end Dev

/-! ## The data of the launch -/

/-- What device `c` starts from, its memory aside. -/
def start (c : Dev nD) : sProp 𝕄 :=
  iprop((∃ K, records m ρ K ∗ linear c) ∗ spare c ∗ credits c ∗ levAts L lv ∗ arrays m c)
/-- Half of the two arrays no window stages, kept to read their final contents. -/
def kept (c : Dev nD) : sProp 𝕄 :=
  iprop((((c : Thread nD τ).loc main_arg3) ↦{fullShare.left} karr m c) ∗ (((c : Thread nD τ).loc main_arg4) ↦{fullShare.left} varr m c))

def Φ₀ (c : Dev nD) : sProp 𝕄 := iprop(start m ρ c ∗ slots c ∗ trims c)
def Φ₁ (c : Dev nD) : sProp 𝕄 := iprop((slots c ∗ trims c) ∗ counters c ∗ spare c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- The three input windows are fetched at the one point. -/
theorem fetched (w : Fin 4) (h : w ≠ 3) : (cfg0.win w).fetch t0_0 = true := by
  rcases w with ⟨_ | _ | _ | _ | _, hw⟩
  · rfl
  · rfl
  · rfl
  · exact absurd rfl h
  · omega

/-! ## The body -/

section Body
variable (c : Dev nD)

def bodyPre : sProp 𝕄 :=
  iprop(Φ₀ m ρ c ∗ (dats m ρ 0 c).owesAt () t0_0.castSucc
    ∗ (∃ d, ownsTc c xInM fullShare ((dats m ρ 0 c).before (0 : Fin 4) t0_0 d))
    ∗ (∃ d, ownsTc c wqInM fullShare ((dats m ρ 0 c).before (1 : Fin 4) t0_0 d))
    ∗ (∃ d, ownsTc c woInM fullShare ((dats m ρ 0 c).before (2 : Fin 4) t0_0 d))
    ∗ (∃ d, ownsTc c outM fullShare ((dats m ρ 0 c).before (3 : Fin 4) t0_0 d)))
def bodyPost : sProp 𝕄 :=
  iprop(Φ₁ c ∗ (dats m ρ 0 c).owesAt () t0_0.succ ∗ ownsTc c xInM fullShare (xstg m ρ c) ∗ ownsTc c wqInM fullShare (wqstg m ρ c)
    ∗ ownsTc c woInM fullShare (wostg m ρ c) ∗ ownsTc c outM fullShare (outAt m ρ c))

set_option maxRecDepth 4000 in
theorem before_x (d) : (dats m ρ 0 c).before (0 : Fin 4) t0_0 d = xstg m ρ c := by
  unfold Dat.before; rw [if_pos (fetched 0 (by decide))]; rfl
set_option maxRecDepth 4000 in
theorem before_wq (d) : (dats m ρ 0 c).before (1 : Fin 4) t0_0 d = wqstg m ρ c := by
  unfold Dat.before; rw [if_pos (fetched 1 (by decide))]; rfl
set_option maxRecDepth 4000 in
theorem before_wo (d) : (dats m ρ 0 c).before (2 : Fin 4) t0_0 d = wostg m ρ c := by
  unfold Dat.before; rw [if_pos (fetched 2 (by decide))]; rfl

set_option maxRecDepth 4000 in
theorem sound_body (Kt : PUnit → sProp 𝕄) :
    iprop(bodyPre m ρ c ∗ (bodyPost m ρ c -∗ Kt ⟨⟩)) ⊢ 𝕎[c] (body c) Kt := by
  unfold bodyPre Φ₀ start
  simp only [before_x, before_wq, before_wo]
  unfold Dat.owesAt Pipeline.owesWithin
  rw [show (dats m ρ 0 c).owed t0_0.castSucc = O₀ c from rfl]
  iintro ⟨⟨⟨⟨⟨%K, #HR, Hl⟩, Hsp, Hcr, #Hlev, HA⟩, Hs, Htr⟩, ⟨%W, %hW, HO⟩, ⟨%d0, Hx⟩, ⟨%d1, Hq⟩, ⟨%d2, Ho⟩, ⟨%d3, Hout⟩⟩, Hk⟩
  ihave H := (arrange m ρ c) $$ [Hl Hsp Hcr HA Hs Hx Hq Ho]
  · isplitl [Hl]; · iexact Hl
    isplitl [Hcr]; · iexact Hcr
    isplitl [HA]; · iexact HA
    isplitl [Hsp]; · iexact Hsp
    isplitl [Hs]; · iexact Hs
    unfold inputs
    isplitl [Hx]; · iexact Hx
    isplitl [Hq]; · iexact Hq
    iexact Ho
  icases H with ⟨Hb, H0, H1, H2, Hown, Has⟩
  ihave Hout := (anyOf_intro c outM _) $$ Hout
  iapply (wp_body m ρ K c)
  isplitr; · iexact Hlev
  isplitr; · iexact HR
  isplitl [HO]
  · unfold owed; iexists W; iexact HO
  isplitl [Hb]; · iexact Hb
  isplitl [H0]; · iexact H0
  isplitl [H1]; · iexact H1
  isplitl [H2]; · iexact H2
  isplitl [Hown]; · iexact Hown
  isplitl [Hout]; · iexact Hout
  iintro HO Hb H0 H1 H2 Hown Hout
  ihave H := (rearrange m ρ c) $$ [Hb H0 H1 H2 Hown Has]
  · isplitl [Hb]; · iexact Hb
    isplitl [H0]; · iexact H0
    isplitl [H1]; · iexact H1
    isplitl [H2]; · iexact H2
    isplitl [Hown]; · iexact Hown
    iexact Has
  unfold inputs owed
  icases H with ⟨Hs, Hc, Hx, Hq, Ho⟩
  icases HO with ⟨%W', HO⟩
  iapply Hk
  unfold bodyPost Φ₁ Dat.owesAt Pipeline.owesWithin
  rw [show (dats m ρ 0 c).owed t0_0.succ = 0 from rfl]
  isplitl [Hs Htr Hc]
  · isplitl [Hs Htr]
    · isplitl [Hs]; · iexact Hs
      iexact Htr
    iexact Hc
  isplitl [HO]
  · iexists W'
    isplitr; · ipureintro; exact fun _ _ => Or.inl trivial
    iexact HO
  isplitl [Hx]; · iexact Hx
  isplitl [Hq]; · iexact Hq
  isplitl [Ho]; · iexact Ho
  iexact Hout

set_option maxRecDepth 16000 in
/-- The launch's obligation for device `c`'s body. -/
theorem body_obligation : BodyObligation (dats (F := F) m ρ 0 c) (defs₀ (F := F)) 𝒱₀ () Set.univ := fun t => by
  rw [fin_N0 t, bigSep_W, bigSep_W]
  show bodyPre m ρ c ⊢ 𝕎[c] (cc0_body xInM (Memref.isWhole_whole _) wqInM (Memref.isWhole_whole _) woInM (Memref.isWhole_whole _) kM (Memref.isWhole_whole _)
      vM (Memref.isWhole_whole _) outM (Memref.isWhole_whole _) xallM (Memref.isWhole_whole _) wqM (Memref.isWhole_whole _) woM (Memref.isWhole_whole _)
      kbufM (Memref.isWhole_whole _) vbufM (Memref.isWhole_whole _) obufM (Memref.isWhole_whole _) psM (Memref.isWhole_whole _) prM (Memref.isWhole_whole _)
      cc0_scratch8 cc0_scratch9 cc0_scratch10 cc0_scratch11 cc0_scratch12) (fun _ => bodyPost m ρ c)
  rw [body_eq]
  simp only [Prog.lift, Prog.bind_op, Prog.bind_ret, wp_deviceId]
  iintro H
  iapply (sound_body m ρ c)
  isplitl [H]; · iexact H
  iintro H; iexact H

end Body

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ kept m c) : sProp 𝕄) := by
  rw [Pipeline.unscopedRestP_none]
  iintro ⟨Hre, Hlev, Hcr, -, HG⟩
  ihave Hc := (creds (F := F) c) $$ Hcr
  ihave Hre := (Entails.of_eq (unscopedRest0_eq c (fun b => m ((c : Thread nD τ).loc b)))) $$ Hre
  icases Hre with ⟨H3, H4⟩
  ihave H3 := (pointsTo_share (PosShare.mem_left_op_right fullShare)).1 $$ H3
  ihave H4 := (pointsTo_share (PosShare.mem_left_op_right fullShare)).1 $$ H4
  icases H3 with ⟨H3, G3⟩
  icases H4 with ⟨H4, G4⟩
  imodintro
  unfold start G' kept arrays readable
  icases HG with ⟨HG, Hsp⟩
  isplitr [H3 H4]
  · isplitl [HG]; · iexact HG
    isplitl [Hsp]; · iexact Hsp
    isplitl [Hc]; · iexact Hc
    isplitl [Hlev]; · iexact Hlev
    isplitl [G3]
    · iexists _; iexact G3
    iexists _; iexact G4
  isplitl [H3]; · iexact H3
  iexact H4

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  ihave Hr := (scratch_cut (F := F) c) $$ Hr
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hs, Hc⟩
  ihave Hs := (scratch_join (F := F) c) $$ Hs
  ihave Hc := (sems_join (F := F) c) $$ Hc
  icases Hc with ⟨Hu, Ho⟩
  isplitl [Hu]; · iexact Hu
  isplitl [Ho]; · iexact Ho
  iexact Hs

/-- The launch's own waits lie below everything owed. -/
theorem waits (c : Dev nD) : (levAts L lv : sProp 𝕄) ⊢ Pipeline.cellsWaits cfgs (dats m ρ) () 0 c :=
  Pipeline.cellsWaits_intro cfgs (dats m ρ) () 0 c fun w s t => by
    have h : lvOf (kind (.dma (((cfgs 0).win w).sem s))) = 0 := by fin_cases w <;> fin_cases s <;> decide
    refine mayWait c _ _ ?_
    rw [h]
    rcases t with ⟨_ | _, ht⟩
    · exact above_O₀ Nat.zero_lt_one c
    · exact Above.zero 0

/-! ## The run -/

def finalA (c : Dev nD) (w : Fin cfg0.W) : Buf (Elt F) ((cfg0.win w).arr.view.loc (c : Thread nD τ)) := (dats m ρ 0 c).arrAt w cfg0.N

/-- The arrays after the run: the windows' at what the launch computes, the other two as they were. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg3) = m ((c : Thread nD τ).loc main_arg3)
    ∧ r.2.mem ((c : Thread nD τ).loc main_arg4) = m ((c : Thread nD τ).loc main_arg4)

/-- What is read off the final state: the counters outside the launch, and the two arrays no window stages. -/
theorem read_end (c : Dev nD) (s : Phys nD τ sig (Elt F)) :
    iprop(unscopedSems0 c ∗ kept m c ∗ SI s) ⊢ (|={Set.univ}=> iprop(⌜(∀ sm : SemLoc sig, sm.isScoped .tc = false → s.mem.sem ((c.tc : Thread nD τ), sm) = 0)
      ∧ s.mem.mem ((c : Thread nD τ).loc main_arg3) = m ((c : Thread nD τ).loc main_arg3)
      ∧ s.mem.mem ((c : Thread nD τ).loc main_arg4) = m ((c : Thread nD τ).loc main_arg4)⌝ ∗ SI s) : sProp 𝕄) := by
  unfold kept
  iintro ⟨Hu, ⟨H3, H4⟩, HSI⟩
  ihave %h3 := (SI_pointsTo_agree (I := Finset.univ) (q := fullShare.left) (ℓ := (c : Thread nD τ).loc main_arg3) (f := karr m c) (st := s)) $$ [H3 HSI]
  · isplitl [HSI] <;> iassumption
  ihave %h4 := (SI_pointsTo_agree (I := Finset.univ) (q := fullShare.left) (ℓ := (c : Thread nD τ).loc main_arg4) (f := varr m c) (st := s)) $$ [H4 HSI]
  · isplitl [HSI] <;> iassumption
  ihave %hu := (tcUnscoped_read c s) $$ [Hu HSI]
  · isplitl [Hu] <;> iassumption
  imodintro
  isplitr
  · ipureintro
    exact ⟨hu, funext fun i => h3 i (Finset.mem_univ i), funext fun i => h4 i (Finset.mem_univ i)⟩
  iexact HSI

set_option maxRecDepth 16000 in
/-- Every weakly fair execution of the program terminates, with each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (launch_split (F := F) _ _) $$ Hu
      icases H with ⟨HP, HX⟩
      imod (fund m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3)
      ∧ s.mem ((c : Thread nD τ).loc main_arg4) = m ((c : Thread nD τ).loc main_arg4))
    (hY := read_end m)
    (hQ := fun _ h hs => ⟨fun c => ⟨fun w => (h c).1 w, (h c).2.2.2⟩, sem_eq_zero hs fun c => (h c).2.2.1⟩)

end Cert.Attn

end
-- ==== Proof.Frames.lean ====
/-
# The frames

Every program terminates, leaves its arguments unchanged and every semaphore counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Attn

open Cert.KernelIdeal Cert.KernelIdeal.Gen
open Idealize.ShloMosaic Idealize.ShloMosaic.TcCoe Idealize.SL.Sem

section Any
variable {F : FTy → Type} [FloatOps F] (m : (ℓ : Loc nD τ sig) → Buf (Elt F) ℓ) (ρ : Dev nD → PrngReg)

theorem final_x (c : Dev nD) : finalA m ρ c (0 : Fin 4) = m ((c : Thread nD τ).loc main_arg0) := (dats m ρ 0 c).arrAt_in (0 : Fin 4) rfl _
theorem final_wq (c : Dev nD) : finalA m ρ c (1 : Fin 4) = m ((c : Thread nD τ).loc main_arg1) := (dats m ρ 0 c).arrAt_in (1 : Fin 4) rfl _
theorem final_wo (c : Dev nD) : finalA m ρ c (2 : Fin 4) = m ((c : Thread nD τ).loc main_arg2) := (dats m ρ 0 c).arrAt_in (2 : Fin 4) rfl _

/-- The arguments after the run are what they were. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 (0 : Fin 4)).trans (final_x m ρ c), ((h c).1 (1 : Fin 4)).trans (final_wq m ρ c), ((h c).1 (2 : Fin 4)).trans (final_wo m ρ c),
    (h c).2.1, (h c).2.2⟩

/-- The run, as the frames say it. -/
theorem run_kept : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨args_kept m ρ h.1, h.2⟩) (run_main m ρ)

end Any

theorem frame_kernelIdeal : Cert.quiescent_KernelIdeal := fun m ρ _ => run_kept (F := Ideal) m ρ

set_option maxRecDepth 16000 in
/-- The compiled program's text is its idealization's: so is its table of bodies, -/
theorem bodies_eq {F : FTy → Type} [FloatOps F] : Cert.Kernel.defs₀ (F := F) = defs₀ := by
  unfold Cert.Kernel.defs₀ defs₀
  congr 1
  funext l a
  match l, a with
  | 0, (t, s) => rfl
theorem defs_eq {F : FTy → Type} [FloatOps F] : Cert.Kernel.defs (F := F) = defs := congrArg (Pipeline.defs pcfgs) bodies_eq

/-- and the one run serves both. -/
theorem frame_kernel : Cert.quiescent_Kernel := fun m ρ _ => by
  rw [defs_eq]
  exact run_kept (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.HeadValue.lean ====
/-
# One head, element by element

What one head computes over the extended reals, as a function of one row of queries, the keys and one column of the values;
and that the kernel's steps compute it.
-/
module

public import proofs.«01_k».proof.Proof.Proto
public import Idealize.ShloMosaic.Lib.Pointwise

@[expose] public section

noncomputable section

namespace Cert.Attn

open Cert.KernelIdeal Cert.KernelIdeal.Gen
open Idealize.ShloMosaic Idealize.ShloMosaic.TcCoe

/-- The scaled score of a query against key `j`. -/
def score (q : Fin 128 → EReal) (k : Fin 4096 → Fin 128 → EReal) (j : Fin 4096) : EReal :=
  (∑ d : Fin 128, q d * k j d) * Ideal.ofBits .f32 0x3DB504F3#32

/-- The exponential of the score less the greatest score. -/
def weight (q : Fin 128 → EReal) (k : Fin 4096 → Fin 128 → EReal) (j : Fin 4096) : EReal :=
  Ideal.exp (score q k j - Finset.univ.fold max (Ideal.ofBits .f32 0xFF800000#32) (score q k))

/-- The weighted mean of the values `v`. -/
def mean (q : Fin 128 → EReal) (k : Fin 4096 → Fin 128 → EReal) (v : Fin 4096 → EReal) : EReal :=
  Ideal.div (∑ j : Fin 4096, weight q k j * v j) (∑ j : Fin 4096, weight q k j)

set_option maxRecDepth 16384

theorem headScores_apply (n : ℕ) (h : n < 8) (q : FVec Ideal S256x1024 .bf16) (k : Vec Ideal S1x4096x128 .f32) (i : Fin 256) (j : Fin 4096) :
    headScores n h q k (ix2 i j) = score (fun d => q (ix2 i ⟨128 * n + d.val, by omega⟩)) (fun j d => k (ix3 0 j d)) j := by
  pointwise [headScores, score]

theorem headExp_apply (s : FVec Ideal S256x4096 .f32) (i : Fin 256) (j : Fin 4096) :
    headExp s (ix2 i j) = Ideal.exp (s (ix2 i j) - Finset.univ.fold max (Ideal.ofBits .f32 0xFF800000#32) (fun j => s (ix2 i j))) := by
  pointwise [headExp]

theorem headApply_apply (p : FVec Ideal S256x4096 .f32) (v : Vec Ideal S1x4096x128 .f32) (i : Fin 256) (e : Fin 128) :
    headApply p v (ix2 i e) = Ideal.div (∑ j : Fin 4096, p (ix2 i j) * v (ix3 0 j e)) (∑ j : Fin 4096, p (ix2 i j)) := by
  pointwise [headApply]

/-- The kernel's head computes it. -/
theorem headOut_apply (n : ℕ) (h : n < 8) (q : FVec Ideal S256x1024 .bf16) (k v : Vec Ideal S1x4096x128 .f32) (i : Fin 256) (e : Fin 128) :
    headOut n h q k v (ix2 i e)
      = mean (fun d => q (ix2 i ⟨128 * n + d.val, by omega⟩)) (fun j d => k (ix3 0 j d)) (fun j => v (ix3 0 j e)) := by
  pointwise [headOut]
  simp only [headApply_apply, headExp_apply, headScores_apply]
  rfl

/-! ## The staged arrays -/

/-- Where the copies of a chunk start. -/
theorem off1_eq : ∀ (c : Dev nD) (d g : Fin 4),
    k0_off1 c (BitVec.ofNat 32 d.val) (BitVec.ofNat 32 (256 * g.val)) = ![(peer c d).val, 0, 1024 * c.val + 256 * g.val] := by decide +kernel

/-- A chunk of a whole array `f`: batch `peer c d`, the columns of two heads. -/
def chunkOf (c : Dev nD) (d g : Fin 4) (f : Vec Ideal S4x4096x32x128 .f32) : Vec Ideal S4096x256 .f32 :=
  shapeCast S4096x256 (fun x : S1x4096x256.Idx => shapeCast S4x4096x4096 f (by decide)
    ((Rect.unit (s := S4x4096x4096) (k0_off1 c (BitVec.ofNat 32 d.val) (BitVec.ofNat 32 (256 * g.val))) S1x4096x256.size
      (k0_off1_inb c d g)).emb x)) (by decide)

/-- The head's number in the whole model: head `2 g + k` of device `c`. -/
def headNo (c g : Fin 4) (k : Fin 2) : Fin 32 := ⟨8 * c.val + 2 * g.val + k.val, by omega⟩

theorem half_chunkOf (c : Dev nD) (d g : Fin 4) (k : Fin 2) (f : Vec Ideal S4x4096x32x128 .f32) (j : Fin 4096) (e : Fin 128) :
    half k (chunkOf c d g f) (ix3 0 j e) = f (ix4 (peer c d) j (headNo c g k) e) := by
  pointwise [half, chunkOf]
  have ho := off1_eq c d g
  have h0 : k0_off1 c (BitVec.ofNat 32 d.val) (BitVec.ofNat 32 (256 * g.val)) 0 = (peer c d).val := congrFun ho 0
  have h1 : k0_off1 c (BitVec.ofNat 32 d.val) (BitVec.ofNat 32 (256 * g.val)) 1 = 0 := congrFun ho 1
  have h2 : k0_off1 c (BitVec.ofNat 32 d.val) (BitVec.ofNat 32 (256 * g.val)) 2 = 1024 * c.val + 256 * g.val := congrFun ho 2
  refine congrArg f ?_
  congr 1
  · apply Fin.ext; change k0_off1 c (BitVec.ofNat 32 d.val) (BitVec.ofNat 32 (256 * g.val)) 0 + 1 * 0 = _; omega
  · apply Fin.ext; change k0_off1 c (BitVec.ofNat 32 d.val) (BitVec.ofNat 32 (256 * g.val)) 1 + 1 * j.val = j.val; omega
  · apply Fin.ext; change (k0_off1 c (BitVec.ofNat 32 d.val) (BitVec.ofNat 32 (256 * g.val)) 2 + 1 * (128 * k.val + e.val)) / 128 = 8 * c.val + 2 * g.val + k.val; omega
  · apply Fin.ext; change (k0_off1 c (BitVec.ofNat 32 d.val) (BitVec.ofNat 32 (256 * g.val)) 2 + 1 * (128 * k.val + e.val)) % 128 = e.val; omega

section Run
variable (m : (ℓ : Loc nD τ sig) → Buf (Elt Ideal) ℓ) (ρ : Dev nD → PrngReg)

/-- The staged blocks are the whole arrays. -/
theorem xstg_apply (c : Dev nD) (i : Fin 256) (j : Fin 1024) : xstg m ρ c (ix3 0 i j) = m ((c : Thread nD τ).loc main_arg0) (ix3 0 i j) := by
  have h0 : (fun a => (win0_0.index (0 : Fin 1)) a * main_arg0.ty.shape.size a) = fun _ => 0 := funext fun a => by fin_cases a <;> decide
  exact congrFun (Memref.read_access_unit_zero (Elt Ideal) main_arg0 h0 (fun a => by fin_cases a <;> decide) _) _
theorem wqstg_apply (c : Dev nD) (i j : Fin 1024) : wqstg m ρ c (ix2 i j) = m ((c : Thread nD τ).loc main_arg1) (ix2 i j) := by
  have h0 : (fun a => (win0_1.index (0 : Fin 1)) a * main_arg1.ty.shape.size a) = fun _ => 0 := funext fun a => by fin_cases a <;> decide
  exact congrFun (Memref.read_access_unit_zero (Elt Ideal) main_arg1 h0 (fun a => by fin_cases a <;> decide) _) _
theorem wostg_apply (c : Dev nD) (i j : Fin 1024) : wostg m ρ c (ix2 i j) = m ((c : Thread nD τ).loc main_arg2) (ix2 i j) := by
  have h0 : (fun a => (win0_2.index (0 : Fin 1)) a * main_arg2.ty.shape.size a) = fun _ => 0 := funext fun a => by fin_cases a <;> decide
  exact congrFun (Memref.read_access_unit_zero (Elt Ideal) main_arg2 h0 (fun a => by fin_cases a <;> decide) _) _

/-- The arrays of one device, as vectors of extended reals. -/
abbrev xA (c : Dev nD) : FVec Ideal S1x256x1024 .f32 := m ((c : Thread nD τ).loc main_arg0)
abbrev wqA (c : Dev nD) : FVec Ideal S1024x1024 .f32 := m ((c : Thread nD τ).loc main_arg1)
abbrev woA (c : Dev nD) : FVec Ideal S1024x1024 .f32 := m ((c : Thread nD τ).loc main_arg2)
abbrev kA (c : Dev nD) : FVec Ideal S4x4096x32x128 .f32 := m ((c : Thread nD τ).loc main_arg3)
abbrev vA (c : Dev nD) : FVec Ideal S4x4096x32x128 .f32 := m ((c : Thread nD τ).loc main_arg4)

theorem chunkK_eq (c : Dev nD) (d g : Fin 4) : chunkK m c d g = chunkOf c d g (kA m c) := by
  funext x
  unfold chunkK kvSrc
  rw [View.read_apply]
  rfl

theorem chunkV_eq (c : Dev nD) (d g : Fin 4) : chunkV m c d g = chunkOf c d g (vA m c) := by
  funext x
  unfold chunkV kvSrc
  rw [View.read_apply]
  rfl

theorem Qv_apply (c : Dev nD) (d : Fin 4) (i : Fin 256) (t : Fin 1024) :
    Qv m ρ c d (ix2 i t) = ∑ k : Fin 1024, xA m (peer c d) (ix3 0 i k) * wqA m c (ix2 k t) := by
  pointwise [Qv, qOf, xbf, WQB, k0_pay1, k0_pay2]
  simp only [xstg_apply, wqstg_apply]

theorem PART_apply (c : Dev nD) (d : Fin 4) (i : Fin 256) (t : Fin 1024) :
    PART m ρ c d (ix2 i t) = ∑ k : Fin 1024, OB m ρ c d (ix2 i k) * woA m c (ix2 k t) := by
  pointwise [PART, WOB, k0_pay3, k0_pay23]
  simp only [wostg_apply]

theorem PR_apply (c : Dev nD) (a : Fin 3) (i : Fin 256) (t : Fin 1024) :
    PR m ρ c a (ix2 i t) = PART m ρ (up c a) a.rev.succ (ix2 i t) := by
  pointwise [PR, PS, PART, k0_pay23, k0_pay40]

theorem outAt_apply (c : Dev nD) (i : Fin 256) (t : Fin 1024) :
    outAt m ρ c (ix3 0 i t) = PART m ρ c 0 (ix2 i t) + PR m ρ c 0 (ix2 i t) + PR m ρ c 1 (ix2 i t) + PR m ρ c 2 (ix2 i t) := by
  pointwise [outAt, addPart, k0_pay76]

end Run

end Cert.Attn

end
-- ==== Proof.RefValue.lean ====
/-
# The reference, element by element

What the whole model computes over the extended reals, and that the reference computes it.
-/
module

public import proofs.«01_k».proof.Proof.HeadValue
public import proofs.«01_k».proof.Proof.Gen.ReferenceIdeal.Run

@[expose] public section

noncomputable section

namespace Cert.Attn

open Cert.ReferenceIdeal Cert.ReferenceIdeal.Gen
open Idealize.ShloMosaic Idealize.ShloMosaic.TcCoe

variable (X : FVec Ideal S4x256x1024 .f32) (Wq : FVec Ideal S1024x4096 .f32) (Wo : FVec Ideal S4096x1024 .f32)
  (K V : FVec Ideal S4x4096x32x128 .f32)

/-- Batch `b`, row `i`, head `n`, column `e` of what the attention computes. -/
def wholeHead (b : Fin 4) (i : Fin 256) (n : Fin 32) (e : Fin 128) : EReal :=
  mean (fun d => ∑ k : Fin 1024, X (ix3 b i k) * Wq (ix2 k ⟨128 * n.val + d.val, by omega⟩))
    (fun j d => K (ix4 b j n d)) (fun j => V (ix4 b j n e))

/-- The same, by the column of all the heads side by side. -/
def wholeCol (b : Fin 4) (i : Fin 256) (t : Fin 4096) : EReal :=
  wholeHead X Wq K V b i ⟨t.val / 128, by omega⟩ ⟨t.val % 128, by omega⟩

/-- The projected result. -/
def wholeOut (b : Fin 4) (i : Fin 256) (o : Fin 1024) : EReal :=
  ∑ t : Fin 4096, wholeCol X Wq K V b i t * Wo (ix2 t o)

/-! ## The reference's terms -/

def refScores : FVec Ideal S4x32x256x4096 .f32 :=
  mulf (Host.dotGeneral dot_S4x256x32x128_S4x4096x32x128_S4x32x256x4096_3_3_1_1_02_02 none
      (shapeCast _ (Host.dotGeneral dot_S4x256x1024_S1024x4096_S4x256x4096_2_0_01_1_n_n none X Wq) shapeCasts_S4x256x4096_S4x256x32x128) K)
    (broadcastInDim S4x32x256x4096 ![] bcast_S_S4x32x256x4096 (constant S_ .f32 0x3DB504F3#32))

def refWeights (S : FVec Ideal S4x32x256x4096 .f32) : FVec Ideal S4x32x256x4096 .f32 :=
  Host.exp (subf S (broadcastInDim S4x32x256x4096 ![0, 1, 2, 3] bcast_S4x32x256x1_S4x32x256x4096_0_1_2_3
    (broadcastInDim S4x32x256x1 ![0, 1, 2] bcast_S4x32x256_S4x32x256x1_0_1_2
      (Host.reduce FloatOps.maximumf S (constant S_ .f32 0xFF800000#32) reducesTo_S4x32x256x4096_S4x32x256_d3 h_S_))))

def refMean (P : FVec Ideal S4x32x256x4096 .f32) : FVec Ideal S4x256x32x128 .f32 :=
  Host.divf (transpose S4x256x32x128 [0, 3, 1, 2] (Host.dotGeneral dot_S4x4096x32x128_S4x32x256x4096_S4x32x128x256_1_3_3_2_02_01 none V P)
      transposes_S4x32x128x256_S4x256x32x128_0_3_1_2)
    (broadcastInDim S4x256x32x128 ![0, 1, 2, 3] bcast_S4x256x32x1_S4x256x32x128_0_1_2_3
      (transpose S4x256x32x1 [0, 2, 1, 3] (broadcastInDim S4x32x256x1 ![0, 1, 2] bcast_S4x32x256_S4x32x256x1_0_1_2
        (Host.reduceAdd P (constant S_ .f32 0x00000000#32) reducesTo_S4x32x256x4096_S4x32x256_d3 h_S_))
        transposes_S4x32x256x1_S4x256x32x1_0_2_1_3))

def refOut : FVec Ideal S4x256x1024 .f32 :=
  Host.dotGeneral dot_S4x256x4096_S4096x1024_S4x256x1024_2_0_01_1_n_n none
    (shapeCast _ (refMean V (refWeights (refScores X Wq K))) shapeCasts_S4x256x32x128_S4x256x4096) Wo

set_option maxRecDepth 16384

theorem refScores_apply (b : Fin 4) (n : Fin 32) (i : Fin 256) (j : Fin 4096) :
    refScores X Wq K (ix4 b n i j) = score (fun d => ∑ k : Fin 1024, X (ix3 b i k) * Wq (ix2 k ⟨128 * n.val + d.val, by omega⟩))
      (fun j d => K (ix4 b j n d)) j := by
  pointwise [refScores, score]
  simp only [Nat.mul_comm]

theorem refWeights_apply (S : FVec Ideal S4x32x256x4096 .f32) (b : Fin 4) (n : Fin 32) (i : Fin 256) (j : Fin 4096) :
    refWeights S (ix4 b n i j) = Ideal.exp (S (ix4 b n i j) - Finset.univ.fold max (Ideal.ofBits .f32 0xFF800000#32) (fun j => S (ix4 b n i j))) := by
  pointwise [refWeights]

theorem refMean_apply (P : FVec Ideal S4x32x256x4096 .f32) (b : Fin 4) (i : Fin 256) (n : Fin 32) (e : Fin 128) :
    refMean V P (ix4 b i n e) = Ideal.div (∑ j : Fin 4096, P (ix4 b n i j) * V (ix4 b j n e)) (∑ j : Fin 4096, P (ix4 b n i j)) := by
  pointwise [refMean]
  exact congrArg (fun t => Ideal.div t _) (Finset.sum_congr rfl fun j _ => mul_comm _ _)

/-- The reference computes it. -/
theorem refOut_apply (b : Fin 4) (i : Fin 256) (o : Fin 1024) : refOut X Wq Wo K V (ix3 b i o) = wholeOut X Wq Wo K V b i o := by
  pointwise [refOut]
  simp only [refMean_apply, refWeights_apply, refScores_apply]
  rfl

/-- The run, with its result so named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := Value.run (F := Ideal) m ρ

end Cert.Attn

end
-- ==== Proof.Value.lean ====
/-
# The value

Each device ends with its batch's rows of what the reference computes. A device's partial result for batch `b` is the sum
over its own eight heads' columns; the four partial results of one batch, added in the order in which the devices stand
after its owner, are the sum over all 32 heads' columns.
-/
module

public import proofs.«01_k».proof.Defs
public import proofs.«01_k».proof.Proof.Frames
public import proofs.«01_k».proof.Proof.RefValue

@[expose] public section

noncomputable section

namespace Cert.Attn

open Cert.KernelIdeal Cert.KernelIdeal.Gen
open Idealize.ShloMosaic Idealize.ShloMosaic.TcCoe Idealize.SL.Sem

/-! ## The result array -/

/-- The result array holds what the body left. -/
theorem final_out {F : FTy → Type} [FloatOps F] (m : (ℓ : Loc nD τ sig) → Buf (Elt F) ℓ) (ρ : Dev nD → PrngReg) (c : Dev nD) :
    finalA m ρ c (3 : Fin 4) = outAt m ρ c := by
  have h0 : (fun a => (win0_3.index (0 : Fin 1)) a * main_v1.ty.shape.size a) = fun _ => 0 := funext fun a => by fin_cases a <;> decide
  refine (Memref.read_access_unit_zero (Elt F) main_v1 h0 (fun a => by fin_cases a <;> decide) _).symm.trans ?_
  change (win0_3.blk (0 : Fin 1)).view.read (Elt F) ((dats m ρ 0 c).arrAt (3 : Fin 4) (((0 : Fin 1) : Fin cfg0.N).val + 1)) = _
  rw [(dats m ρ 0 c).arrAt_succ (3 : Fin 4) (0 : Fin 1), show (cfg0.win (3 : Fin 4)).flush (0 : Fin 1) = true from by decide, if_pos rfl]
  exact View.read_write_univ _ _

/-! ## A device's share of a batch -/

variable (X : FVec Ideal Cert.ReferenceIdeal.S4x256x1024 .f32) (Wq : FVec Ideal Cert.ReferenceIdeal.S1024x4096 .f32)
  (Wo : FVec Ideal Cert.ReferenceIdeal.S4096x1024 .f32) (K V : FVec Ideal S4x4096x32x128 .f32)

/-- The part of the projected result that comes of device `s`'s heads. -/
def share (b : Fin 4) (i : Fin 256) (o : Fin 1024) (s : Fin 4) : EReal :=
  ∑ t : Fin 1024, wholeCol X Wq K V b i ⟨s.val * 1024 + t.val, by omega⟩ * Wo (ix2 ⟨s.val * 1024 + t.val, by omega⟩ o)

theorem wholeOut_eq (b : Fin 4) (i : Fin 256) (o : Fin 1024) : wholeOut X Wq Wo K V b i o = ∑ s : Fin 4, share X Wq Wo K V b i o s :=
  Fin.sum_univ_tiles 4 1024 rfl _

variable {X Wq Wo K V} (m : (ℓ : Loc nD τ sig) → Buf (Elt Ideal) ℓ) (ρ : Dev nD → PrngReg)

/-- The devices' arrays are the whole arrays' blocks. -/
structure Placed (X : FVec Ideal Cert.ReferenceIdeal.S4x256x1024 .f32) (Wq : FVec Ideal Cert.ReferenceIdeal.S1024x4096 .f32)
    (Wo : FVec Ideal Cert.ReferenceIdeal.S4096x1024 .f32) (K V : FVec Ideal S4x4096x32x128 .f32) : Prop where
  x : ∀ (c : Dev nD) (i : Fin 256) (j : Fin 1024), xA m c (ix3 0 i j) = X (ix3 c i j)
  wq : ∀ (c : Dev nD) (i j : Fin 1024), wqA m c (ix2 i j) = Wq (ix2 i ⟨c.val * 1024 + j.val, by have : c.val < 4 := c.isLt; omega⟩)
  wo : ∀ (c : Dev nD) (i j : Fin 1024), woA m c (ix2 i j) = Wo (ix2 ⟨c.val * 1024 + i.val, by have : c.val < 4 := c.isLt; omega⟩ j)
  k : ∀ c : Dev nD, kA m c = K
  v : ∀ c : Dev nD, vA m c = V

variable {m} (hp : Placed m X Wq Wo K V)
include hp

theorem headO_eq (c : Dev nD) (d g : Fin 4) (k : Fin 2) (i : Fin 256) (e : Fin 128) :
    headO m ρ c d g k (ix2 i e) = wholeHead X Wq K V (peer c d) i (headNo c g k) e := by
  unfold headO wholeHead
  rw [headOut_apply, chunkK_eq, chunkV_eq]
  simp only [half_chunkOf, Qv_apply, hp.x, hp.wq, hp.k, hp.v]
  congr 1
  funext d'
  refine Finset.sum_congr rfl fun a _ => ?_
  congr 3
  apply Fin.ext
  change c.val * 1024 + (128 * (2 * g.val + k.val) + d'.val) = 128 * (8 * c.val + 2 * g.val + k.val) + d'.val
  omega

theorem OB_eq (c : Dev nD) (d : Fin 4) (i : Fin 256) (t : Fin 1024) :
    OB m ρ c d (ix2 i t) = wholeCol X Wq K V (peer c d) i ⟨c.val * 1024 + t.val, by have : c.val < 4 := c.isLt; omega⟩ := by
  unfold OB wholeCol
  refine (headO_eq ρ hp c d _ _ _ _).trans ?_
  congr 1
  · apply Fin.ext
    change 8 * c.val + 2 * (t.val / 256) + t.val / 128 % 2 = (c.val * 1024 + t.val) / 128
    omega
  · apply Fin.ext
    change t.val % 128 = (c.val * 1024 + t.val) % 128
    omega

theorem PART_eq (c : Dev nD) (d : Fin 4) (i : Fin 256) (o : Fin 1024) :
    PART m ρ c d (ix2 i o) = share X Wq Wo K V (peer c d) i o c := by
  rw [PART_apply]
  exact Finset.sum_congr rfl fun t _ => congrArg₂ (fun a b : EReal => a * b) (OB_eq ρ hp c d i t) (hp.wo c t o)

/-- Each device's result is its batch's rows. -/
theorem outAt_eq (c : Dev nD) (i : Fin 256) (o : Fin 1024) : outAt m ρ c (ix3 0 i o) = wholeOut X Wq Wo K V c i o := by
  have hb : ∀ (c : Dev nD) (a : Fin 3), peer (up c a) a.rev.succ = c := by decide
  rw [outAt_apply, PR_apply, PR_apply, PR_apply, PART_eq ρ hp, PART_eq ρ hp, PART_eq ρ hp, PART_eq ρ hp, hb, hb, hb, peer_zero,
    wholeOut_eq, Fin.sum_univ_four]
  generalize hs : share X Wq Wo K V c i o = s
  have h4 : ∀ s : Fin 4 → EReal, s c + s (up c 0) + s (up c 1) + s (up c 2) = s 0 + s 1 + s 2 + s 3 := by
    intro s
    fin_cases c
    · rfl
    · change s 1 + s 2 + s 3 + s 0 = _; ac_rfl
    · change s 2 + s 3 + s 0 + s 1 = _; ac_rfl
    · change s 3 + s 0 + s 1 + s 2 = _; ac_rfl
  exact h4 s

omit hp

/-! ## The claim -/

theorem algebraic : Cert.algebraic_KernelIdeal_ReferenceIdeal := by
  intro m ρ m' ρ' _ hagree
  let X : FVec Ideal Cert.ReferenceIdeal.S4x256x1024 .f32 := m' (((0 : Dev Cert.ReferenceIdeal.nD).tc : Thread _ Cert.ReferenceIdeal.τ).loc Cert.ReferenceIdeal.main_arg0)
  let Wq : FVec Ideal Cert.ReferenceIdeal.S1024x4096 .f32 := m' (((0 : Dev Cert.ReferenceIdeal.nD).tc : Thread _ Cert.ReferenceIdeal.τ).loc Cert.ReferenceIdeal.main_arg1)
  let Wo : FVec Ideal Cert.ReferenceIdeal.S4096x1024 .f32 := m' (((0 : Dev Cert.ReferenceIdeal.nD).tc : Thread _ Cert.ReferenceIdeal.τ).loc Cert.ReferenceIdeal.main_arg2)
  let K : FVec Ideal S4x4096x32x128 .f32 := m' (((0 : Dev Cert.ReferenceIdeal.nD).tc : Thread _ Cert.ReferenceIdeal.τ).loc Cert.ReferenceIdeal.main_arg3)
  let V : FVec Ideal S4x4096x32x128 .f32 := m' (((0 : Dev Cert.ReferenceIdeal.nD).tc : Thread _ Cert.ReferenceIdeal.τ).loc Cert.ReferenceIdeal.main_arg4)
  have hp : Placed m X Wq Wo K V := by
    refine ⟨fun c i j => ?_, fun c i j => ?_, fun c i j => ?_, fun c => (hagree c).2.2.2.1, fun c => (hagree c).2.2.2.2⟩
    · refine (congrFun (hagree c).1 (ix3 0 i j)).trans (congrArg X ?_)
      funext a; apply Fin.ext
      match a with
      | 0 => exact Nat.mul_one _
      | 1 => rfl
      | 2 => rfl
    · refine (congrFun (hagree c).2.1 (ix2 i j)).trans (congrArg Wq ?_)
      funext a
      match a with
      | 0 => rfl
      | 1 => rfl
    · refine (congrFun (hagree c).2.2.1 (ix2 i j)).trans (congrArg Wo ?_)
      funext a
      match a with
      | 0 => rfl
      | 1 => rfl
  refine ⟨refOut X Wq Wo K V, ?_, ?_⟩
  · refine (θ_run defs _ _).mono (fun _ h c => ⟨((h.1 c).1 (3 : Fin 4)).trans ((final_out m ρ c).trans ?_), args_kept m ρ h.1 c⟩) (run_main (F := Ideal) m ρ)
    funext j
    obtain ⟨i, o, rfl⟩ : ∃ (i : Fin 256) (o : Fin 1024), j = ix3 0 i o := ⟨j 1, j 2, by
      funext a
      match a with
      | 0 => exact Fin.ext (Nat.lt_one_iff.1 (j 0).isLt)
      | 1 => rfl
      | 2 => rfl⟩
    refine (outAt_eq ρ hp c i o).trans ((refOut_apply X Wq Wo K V c i o).symm.trans (congrArg _ ?_))
    funext a; apply Fin.ext
    match a with
    | 0 => exact (Nat.mul_one _).symm
    | 1 => rfl
    | 2 => rfl
  · exact (θ_run Cert.ReferenceIdeal.defs _ _).mono (fun _ h => h 0) (ref_run m' ρ')

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.frame_kernel, Cert.Attn.frame_kernelIdeal, Cert.Attn.frame_reference, trivial, Cert.Attn.algebraic⟩

end Cert.Proof

end
